-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_nt" .f32 0x3BA72F05#32 ((1 / 196 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S128x3x224x224 : Shape := ⟨4, ![128, 3, 224, 224]⟩
abbrev S128x1000 : Shape := ⟨2, ![128, 1000]⟩
abbrev S128x49x768 : Shape := ⟨3, ![128, 49, 768]⟩
abbrev S128x49 : Shape := ⟨2, ![128, 49]⟩
abbrev S128x196 : Shape := ⟨2, ![128, 196]⟩
abbrev S128 : Shape := ⟨1, ![128]⟩
abbrev S768x768 : Shape := ⟨2, ![768, 768]⟩
abbrev S768x1000 : Shape := ⟨2, ![768, 1000]⟩
abbrev S_ : Shape := ⟨0, ![]⟩

class Facts : Prop where
  bcast_S_S128x1000 : S_.BroadcastsInDim S128x1000 (![] : Fin 0 → Fin S128x1000.rank)
  reducesTo_S128x1000_S_d0_1 : S128x1000.ReducesTo [0, 1] S_
  h_S_ : 0 < S_.numel
  bcast_S_S128x49x768 : S_.BroadcastsInDim S128x49x768 (![] : Fin 0 → Fin S128x49x768.rank)
  reducesTo_S128x49x768_S_d0_1_2 : S128x49x768.ReducesTo [0, 1, 2] S_
  bcast_S_S768x1000 : S_.BroadcastsInDim S768x1000 (![] : Fin 0 → Fin S768x1000.rank)
  reducesTo_S768x1000_S_d0_1 : S768x1000.ReducesTo [0, 1] S_
  bcast_S_S128 : S_.BroadcastsInDim S128 (![] : Fin 0 → Fin S128.rank)
  reducesTo_S128_S_d0 : S128.ReducesTo [0] S_
  bcast_S_S128x49 : S_.BroadcastsInDim S128x49 (![] : Fin 0 → Fin S128x49.rank)
  reducesTo_S128x49_S_d0_1 : S128x49.ReducesTo [0, 1] S_

variable [Facts]

def fn_part1 {F : FTy → Type} [FloatOps F] (main_arg7 : IVec S128x49 32) (main_arg8 : IVec S128 32) (main_v13 : IVec S_ 1) (main_v15 : IVec S128 1) (main_c_5 : IVec S_ 32) : IVec S_ 1 :=
  let main_v16 : IVec S128 32 := broadcastInDim S128 ![] bcast_S_S128 main_c_5
  let main_v17 : IVec S128 1 := cmpi .slt main_arg8 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  let main_c_7 : IVec S_ 32 := constantI S_ 32 0#32
  let main_v21 : IVec S128x49 32 := broadcastInDim S128x49 ![] bcast_S_S128x49 main_c_7
  let main_v22 : IVec S128x49 1 := cmpi .sge main_arg7 main_v21
  let main_c_8 : IVec S_ 32 := constantI S_ 32 196#32
  let main_v23 : IVec S128x49 32 := broadcastInDim S128x49 ![] bcast_S_S128x49 main_c_8
  let main_v24 : IVec S128x49 1 := cmpi .slt main_arg7 main_v23
  let main_v25 : IVec S128x49 1 := andi main_v22 main_v24
  let main_c_9 : IVec S_ 1 := constantI S_ 1 1#1
  let main_v26 : IVec S_ 1 := (fun x v => Host.reduce IntOp.andi x v reducesTo_S128x49_S_d0_1 h_S_) main_v25 main_c_9
  let main_v27 : IVec S_ 1 := andi main_v20 main_v26
  main_v27

def fn {F : FTy → Type} [FloatOps F] (main_arg0 : FVec F S128x3x224x224 .f32) (main_arg1 : FVec F S128x1000 .f32) (main_arg2 : FVec F S128x49x768 .f32) (main_arg3 : FVec F S128x49 .f32) (main_arg4 : FVec F S128x196 .f32) (main_arg5 : FVec F S128x196 .f32) (main_arg6 : FVec F S128x196 .f32) (main_arg7 : IVec S128x49 32) (main_arg8 : IVec S128 32) (main_arg9 : FVec F S768x768 .f32) (main_arg10 : FVec F S768x1000 .f32) : IVec S_ 1 :=
  let main_v0 : FVec F S128x1000 .f32 := subf main_arg1 main_arg1
  let main_cst : FVec F S_ .f32 := constant S_ .f32 0x00000000#32
  let main_v1 : FVec F S128x1000 .f32 := broadcastInDim S128x1000 ![] bcast_S_S128x1000 main_cst
  let main_v2 : IVec S128x1000 1 := cmpf .oeq main_v0 main_v1
  let main_c : IVec S_ 1 := constantI S_ 1 1#1
  let main_v3 : IVec S_ 1 := (fun x v => Host.reduce IntOp.andi x v reducesTo_S128x1000_S_d0_1 h_S_) main_v2 main_c
  let main_v4 : FVec F S128x49x768 .f32 := subf main_arg2 main_arg2
  let main_cst_0 : FVec F S_ .f32 := constant S_ .f32 0x00000000#32
  let main_v5 : FVec F S128x49x768 .f32 := broadcastInDim S128x49x768 ![] bcast_S_S128x49x768 main_cst_0
  let main_v6 : IVec S128x49x768 1 := cmpf .oeq main_v4 main_v5
  let main_c_1 : IVec S_ 1 := constantI S_ 1 1#1
  let main_v7 : IVec S_ 1 := (fun x v => Host.reduce IntOp.andi x v reducesTo_S128x49x768_S_d0_1_2 h_S_) main_v6 main_c_1
  let main_v8 : IVec S_ 1 := andi main_v3 main_v7
  let main_v9 : FVec F S768x1000 .f32 := subf main_arg10 main_arg10
  let main_cst_2 : FVec F S_ .f32 := constant S_ .f32 0x00000000#32
  let main_v10 : FVec F S768x1000 .f32 := broadcastInDim S768x1000 ![] bcast_S_S768x1000 main_cst_2
  let main_v11 : IVec S768x1000 1 := cmpf .oeq main_v9 main_v10
  let main_c_3 : IVec S_ 1 := constantI S_ 1 1#1
  let main_v12 : IVec S_ 1 := (fun x v => Host.reduce IntOp.andi x v reducesTo_S768x1000_S_d0_1 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg8 main_v14
  let main_c_5 : IVec S_ 32 := constantI S_ 32 1000#32
  fn_part1 (F := F) main_arg7 main_arg8 main_v13 main_v15 main_c_5
-- ==== Kernel.lean ====
abbrev S128x3x224x224 : Shape := ⟨4, ![128, 3, 224, 224]⟩
abbrev S128x1000 : Shape := ⟨2, ![128, 1000]⟩
abbrev S128x49x768 : Shape := ⟨3, ![128, 49, 768]⟩
abbrev S128x49 : Shape := ⟨2, ![128, 49]⟩
abbrev S128x196 : Shape := ⟨2, ![128, 196]⟩
abbrev S128 : Shape := ⟨1, ![128]⟩
abbrev S768x768 : Shape := ⟨2, ![768, 768]⟩
abbrev S768x1000 : Shape := ⟨2, ![768, 1000]⟩
abbrev S3x224x224x128 : Shape := ⟨4, ![3, 224, 224, 128]⟩
abbrev S3x14x16x14x16x128 : Shape := ⟨6, ![3, 14, 16, 14, 16, 128]⟩
abbrev S1000x768 : Shape := ⟨2, ![1000, 768]⟩
abbrev S1000x128 : Shape := ⟨2, ![1000, 128]⟩
abbrev S196x128 : Shape := ⟨2, ![196, 128]⟩
abbrev S196x128x768 : Shape := ⟨3, ![196, 128, 768]⟩
abbrev S128x768 : Shape := ⟨2, ![128, 768]⟩
abbrev S_ : Shape := ⟨0, ![]⟩
abbrev S128x1 : Shape := ⟨2, ![128, 1]⟩
abbrev S25088x768 : Shape := ⟨2, ![25088, 768]⟩
abbrev S128x49x1 : Shape := ⟨3, ![128, 49, 1]⟩
abbrev S1 : Shape := ⟨1, ![1]⟩
abbrev S1x1x1 : Shape := ⟨3, ![1, 1, 1]⟩
abbrev S1x128 : Shape := ⟨2, ![1, 128]⟩
abbrev S1x1 : Shape := ⟨2, ![1, 1]⟩
abbrev S3x1x16x14x16x128 : Shape := ⟨6, ![3, 1, 16, 14, 16, 128]⟩
abbrev S14x128x768 : Shape := ⟨3, ![14, 128, 768]⟩
abbrev S3x1x16x1x16x128 : Shape := ⟨6, ![3, 1, 16, 1, 16, 128]⟩
abbrev S3x16x16x128 : Shape := ⟨4, ![3, 16, 16, 128]⟩
abbrev S768x128 : Shape := ⟨2, ![768, 128]⟩
abbrev S1x128x768 : Shape := ⟨3, ![1, 128, 768]⟩
abbrev S16x49x768 : Shape := ⟨3, ![16, 49, 768]⟩
abbrev S16x49 : Shape := ⟨2, ![16, 49]⟩
abbrev S16x49x1 : Shape := ⟨3, ![16, 49, 1]⟩
abbrev S1x1000x128 : Shape := ⟨3, ![1, 1000, 128]⟩
abbrev S1x128x49 : Shape := ⟨3, ![1, 128, 49]⟩

abbrev nBuf : Space → Nat
  | .hbm => 65
  | .vmem => 30
  | .smem => 0
  | _ => 0

abbrev bufTy : (tb : Table) → Fin (tcTables nBuf tb) → BufTy
  | .hbm, ⟨0, _⟩ => ⟨S128x3x224x224, .f32⟩
  | .hbm, ⟨1, _⟩ => ⟨S128x1000, .f32⟩
  | .hbm, ⟨2, _⟩ => ⟨S128x49x768, .f32⟩
  | .hbm, ⟨3, _⟩ => ⟨S128x49, .f32⟩
  | .hbm, ⟨4, _⟩ => ⟨S128x196, .f32⟩
  | .hbm, ⟨5, _⟩ => ⟨S128x196, .f32⟩
  | .hbm, ⟨6, _⟩ => ⟨S128x196, .f32⟩
  | .hbm, ⟨7, _⟩ => ⟨S128x49, .i32⟩
  | .hbm, ⟨8, _⟩ => ⟨S128, .i32⟩
  | .hbm, ⟨9, _⟩ => ⟨S768x768, .f32⟩
  | .hbm, ⟨10, _⟩ => ⟨S768x1000, .f32⟩
  | .hbm, ⟨11, _⟩ => ⟨S3x224x224x128, .f32⟩
  | .hbm, ⟨12, _⟩ => ⟨S3x14x16x14x16x128, .f32⟩
  | .hbm, ⟨13, _⟩ => ⟨S1000x768, .f32⟩
  | .hbm, ⟨14, _⟩ => ⟨S1000x128, .f32⟩
  | .hbm, ⟨15, _⟩ => ⟨S196x128, .f32⟩
  | .hbm, ⟨16, _⟩ => ⟨S196x128, .f32⟩
  | .hbm, ⟨17, _⟩ => ⟨S196x128, .f32⟩
  | .hbm, ⟨18, _⟩ => ⟨S768x768, .bf16⟩
  | .hbm, ⟨19, _⟩ => ⟨S196x128x768, .bf16⟩
  | .hbm, ⟨20, _⟩ => ⟨S128x768, .f32⟩
  | .hbm, ⟨21, _⟩ => ⟨S_, .i32⟩
  | .hbm, ⟨22, _⟩ => ⟨S128x49, .i32⟩
  | .hbm, ⟨23, _⟩ => ⟨S128x49, .i32⟩
  | .hbm, ⟨24, _⟩ => ⟨S128, .i32⟩
  | .hbm, ⟨25, _⟩ => ⟨S128x1, .i32⟩
  | .hbm, ⟨26, _⟩ => ⟨S128x49, .i32⟩
  | .hbm, ⟨27, _⟩ => ⟨S128x49, .i32⟩
  | .hbm, ⟨28, _⟩ => ⟨S25088x768, .bf16⟩
  | .hbm, ⟨29, _⟩ => ⟨S_, .i32⟩
  | .hbm, ⟨30, _⟩ => ⟨S128x49, .i32⟩
  | .hbm, ⟨31, _⟩ => ⟨S128x49, .i1⟩
  | .hbm, ⟨32, _⟩ => ⟨S_, .i32⟩
  | .hbm, ⟨33, _⟩ => ⟨S128x49, .i32⟩
  | .hbm, ⟨34, _⟩ => ⟨S128x49, .i32⟩
  | .hbm, ⟨35, _⟩ => ⟨S128x49, .i32⟩
  | .hbm, ⟨36, _⟩ => ⟨S128x49x1, .i32⟩
  | .hbm, ⟨37, _⟩ => ⟨S1, .i32⟩
  | .hbm, ⟨38, _⟩ => ⟨S_, .i32⟩
  | .hbm, ⟨39, _⟩ => ⟨S128x49x1, .i32⟩
  | .hbm, ⟨40, _⟩ => ⟨S128x49x1, .i1⟩
  | .hbm, ⟨41, _⟩ => ⟨S1x1x1, .i32⟩
  | .hbm, ⟨42, _⟩ => ⟨S128x49x1, .i32⟩
  | .hbm, ⟨43, _⟩ => ⟨S128x49x1, .i1⟩
  | .hbm, ⟨44, _⟩ => ⟨S128x49x1, .i1⟩
  | .hbm, ⟨45, _⟩ => ⟨S_, .i1⟩
  | .hbm, ⟨46, _⟩ => ⟨S128x49, .i1⟩
  | .hbm, ⟨47, _⟩ => ⟨S128x49x768, .bf16⟩
  | .hbm, ⟨48, _⟩ => ⟨S128x49x768, .i1⟩
  | .hbm, ⟨49, _⟩ => ⟨S_, .bf16⟩
  | .hbm, ⟨50, _⟩ => ⟨S128x49x768, .bf16⟩
  | .hbm, ⟨51, _⟩ => ⟨S128x49x768, .bf16⟩
  | .hbm, ⟨52, _⟩ => ⟨S128x49, .f32⟩
  | .hbm, ⟨53, _⟩ => ⟨S128x49, .f32⟩
  | .hbm, ⟨54, _⟩ => ⟨S1x128, .i32⟩
  | .hbm, ⟨55, _⟩ => ⟨S1x1, .f32⟩
  | .hbm, ⟨56, _⟩ => ⟨S1x1, .f32⟩
  | .hbm, ⟨57, _⟩ => ⟨S1x1, .f32⟩
  | .hbm, ⟨58, _⟩ => ⟨S1x1, .f32⟩
  | .hbm, ⟨59, _⟩ => ⟨S1x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S3x1x16x14x16x128, .f32⟩
  | .local _ .vmem, ⟨1, _⟩ => ⟨S3x1x16x14x16x128, .f32⟩
  | .local _ .vmem, ⟨2, _⟩ => ⟨S768x768, .bf16⟩
  | .local _ .vmem, ⟨3, _⟩ => ⟨S14x128x768, .bf16⟩
  | .local _ .vmem, ⟨4, _⟩ => ⟨S14x128x768, .bf16⟩
  | .local _ .vmem, ⟨5, _⟩ => ⟨S128x768, .f32⟩
  | .local _ .vmem, ⟨6, _⟩ => ⟨S16x49x768, .bf16⟩
  | .local _ .vmem, ⟨7, _⟩ => ⟨S16x49x768, .bf16⟩
  | .local _ .vmem, ⟨8, _⟩ => ⟨S16x49x768, .f32⟩
  | .local _ .vmem, ⟨9, _⟩ => ⟨S16x49x768, .f32⟩
  | .local _ .vmem, ⟨10, _⟩ => ⟨S16x49, .f32⟩
  | .local _ .vmem, ⟨11, _⟩ => ⟨S16x49, .f32⟩
  | .local _ .vmem, ⟨12, _⟩ => ⟨S16x49, .f32⟩
  | .local _ .vmem, ⟨13, _⟩ => ⟨S16x49, .f32⟩
  | .local _ .vmem, ⟨14, _⟩ => ⟨S16x49, .f32⟩
  | .local _ .vmem, ⟨15, _⟩ => ⟨S16x49, .f32⟩
  | .local _ .vmem, ⟨16, _⟩ => ⟨S128x768, .f32⟩
  | .local _ .vmem, ⟨17, _⟩ => ⟨S1000x768, .f32⟩
  | .local _ .vmem, ⟨18, _⟩ => ⟨S1000x128, .f32⟩
  | .local _ .vmem, ⟨19, _⟩ => ⟨S1x128, .i32⟩
  | .local _ .vmem, ⟨20, _⟩ => ⟨S128x49, .f32⟩
  | .local _ .vmem, ⟨21, _⟩ => ⟨S128x49, .f32⟩
  | .local _ .vmem, ⟨22, _⟩ => ⟨S196x128, .f32⟩
  | .local _ .vmem, ⟨23, _⟩ => ⟨S196x128, .f32⟩
  | .local _ .vmem, ⟨24, _⟩ => ⟨S196x128, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | .local _ .vmem, ⟨29, _⟩ => ⟨S1x1, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8_0 : Ref sig .tc := ⟨.hbm, 19, rfl⟩
abbrev main_call0_v8_1 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_call0_c : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_c_0 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_c_1 : Ref sig .tc := ⟨.hbm, 37, rfl⟩
abbrev main_call0_call0_c_2 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_c_3 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_v14 : Ref sig .tc := ⟨.hbm, 48, rfl⟩
abbrev main_call0_call0_cst : Ref sig .tc := ⟨.hbm, 49, rfl⟩
abbrev main_call0_call0_v15 : Ref sig .tc := ⟨.hbm, 50, rfl⟩
abbrev main_call0_v16 : Ref sig .tc := ⟨.hbm, 51, rfl⟩
abbrev main_call0_v17_0 : Ref sig .tc := ⟨.hbm, 52, rfl⟩
abbrev main_call0_v17_1 : Ref sig .tc := ⟨.hbm, 53, rfl⟩
abbrev main_call0_v18 : Ref sig .tc := ⟨.hbm, 54, rfl⟩
abbrev main_call0_v19_0 : Ref sig .tc := ⟨.hbm, 55, rfl⟩
abbrev main_call0_v19_1 : Ref sig .tc := ⟨.hbm, 56, rfl⟩
abbrev main_call0_v19_2 : Ref sig .tc := ⟨.hbm, 57, rfl⟩
abbrev main_call0_v19_3 : Ref sig .tc := ⟨.hbm, 58, rfl⟩
abbrev main_call0_v19_4 : Ref sig .tc := ⟨.hbm, 59, rfl⟩
abbrev main_v0_0 : Ref sig .tc := ⟨.hbm, 60, rfl⟩
abbrev main_v0_1 : Ref sig .tc := ⟨.hbm, 61, rfl⟩
abbrev main_v0_2 : Ref sig .tc := ⟨.hbm, 62, rfl⟩
abbrev main_v0_3 : Ref sig .tc := ⟨.hbm, 63, rfl⟩
abbrev main_v0_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v183 : BitVec 1 := Scalar.cmpi .eq arg0 c0_i32
  let v184 : BitVec 32 := Scalar.extui v183
  let c0_i32_154 : BitVec 32 := 0#32
  let v185 : BitVec 1 := Scalar.cmpi .ne v184 c0_i32_154
  v185

def k0_cond2 (i : grid0.Coords) : BitVec 1 :=
  let arg0 : BitVec 32 := BitVec.ofNat 32 (i 0).val
  let c0_i32_155 : BitVec 32 := 0#32
  let v186 : BitVec 1 := Scalar.cmpi .sgt arg0 c0_i32_155
  let v187 : BitVec 32 := Scalar.extui v186
  let c0_i32_156 : BitVec 32 := 0#32
  let v188 : BitVec 1 := Scalar.cmpi .ne v187 c0_i32_156
  v188

def cc0_transform_0 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, arg0.toNat, c0_i32_0.toNat, c0_i32_1.toNat, c0_i32_2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x1x16x14x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S14x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x49x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x49x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x49 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x49 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x49 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S128x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1000x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128x49 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128x49 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S196x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S196x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S196x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S1x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
-- ==== KernelIdeal.lean ====
variable {F : FTy → Type} [FloatOps F] [Named F]
def κ : String → Option EReal := fun
  | "inv_nt" => some ((1 / 196 : ℝ) : EReal)
  | _ => none
-- ==== ReferenceIdeal.lean ====
abbrev S128x3x224x224 : Shape := ⟨4, ![128, 3, 224, 224]⟩
abbrev S128x1000 : Shape := ⟨2, ![128, 1000]⟩
abbrev S128x49x768 : Shape := ⟨3, ![128, 49, 768]⟩
abbrev S128x49 : Shape := ⟨2, ![128, 49]⟩
abbrev S128x196 : Shape := ⟨2, ![128, 196]⟩
abbrev S128 : Shape := ⟨1, ![128]⟩
abbrev S768x768 : Shape := ⟨2, ![768, 768]⟩
abbrev S768x1000 : Shape := ⟨2, ![768, 1000]⟩
abbrev S_ : Shape := ⟨0, ![]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S128x768 : Shape := ⟨2, ![128, 768]⟩
abbrev S128x49x1 : Shape := ⟨3, ![128, 49, 1]⟩
abbrev S128x49x2 : Shape := ⟨3, ![128, 49, 2]⟩
abbrev S6272 : Shape := ⟨1, ![6272]⟩
abbrev S6272x768 : Shape := ⟨2, ![6272, 768]⟩
abbrev S6272x1 : Shape := ⟨2, ![6272, 1]⟩

abbrev nBuf : Space → Nat
  | .hbm => 239
  | .vmem => 0
  | .smem => 0
  | _ => 0

abbrev hbmTy0_0 (i : Nat) : BufTy := match i % 128 with
  | 0 => ⟨S128x3x224x224, .f32⟩
  | 1 => ⟨S128x1000, .f32⟩
  | 2 => ⟨S128x49x768, .f32⟩
  | 3 => ⟨S128x49, .f32⟩
  | 4 => ⟨S128x196, .f32⟩
  | 5 => ⟨S128x196, .f32⟩
  | 6 => ⟨S128x196, .f32⟩
  | 7 => ⟨S128x49, .i32⟩
  | 8 => ⟨S128, .i32⟩
  | 9 => ⟨S768x768, .f32⟩
  | 10 => ⟨S768x1000, .f32⟩
  | 11 => ⟨S_, .f32⟩
  | 12 => ⟨S128, .f32⟩
  | 13 => ⟨S_, .f32⟩
  | 14 => ⟨S128, .f32⟩
  | 15 => ⟨S128, .f32⟩
  | 16 => ⟨S128x1, .f32⟩
  | 17 => ⟨S128x1000, .f32⟩
  | 18 => ⟨S128x1000, .f32⟩
  | 19 => ⟨S128x1000, .f32⟩
  | 20 => ⟨S_, .f32⟩
  | 21 => ⟨S128, .f32⟩
  | 22 => ⟨S128x1, .f32⟩
  | 23 => ⟨S128x1, .f32⟩
  | 24 => ⟨S128x1000, .f32⟩
  | 25 => ⟨S128x1000, .f32⟩
  | 26 => ⟨S128x1, .i32⟩
  | 27 => ⟨S_, .i32⟩
  | 28 => ⟨S128x1, .i32⟩
  | 29 => ⟨S128x1, .i1⟩
  | 30 => ⟨S_, .i32⟩
  | 31 => ⟨S128x1, .i32⟩
  | 32 => ⟨S128x1, .i32⟩
  | 33 => ⟨S128x1, .i32⟩
  | 34 => ⟨S128x1x1, .i32⟩
  | 35 => ⟨S1, .i32⟩
  | 36 => ⟨S_, .i32⟩
  | 37 => ⟨S128x1x1, .i32⟩
  | 38 => ⟨S128x1x1, .i1⟩
  | 39 => ⟨S1x1x1, .i32⟩
  | 40 => ⟨S128x1x1, .i32⟩
  | 41 => ⟨S128x1x1, .i1⟩
  | 42 => ⟨S128x1x1, .i1⟩
  | 43 => ⟨S_, .i1⟩
  | 44 => ⟨S128x1, .i1⟩
  | 45 => ⟨S128x1, .f32⟩
  | 46 => ⟨S_, .f32⟩
  | 47 => ⟨S128x1, .f32⟩
  | 48 => ⟨S128x1, .f32⟩
  | 49 => ⟨S128, .f32⟩
  | 50 => ⟨S128, .f32⟩
  | 51 => ⟨S_, .f32⟩
  | 52 => ⟨S_, .f32⟩
  | 53 => ⟨S_, .f32⟩
  | 54 => ⟨S_, .f32⟩
  | 55 => ⟨S_, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S128, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S128, .f32⟩
  | 72 => ⟨S_, .f32⟩
  | 73 => ⟨S128, .f32⟩
  | 74 => ⟨S128, .f32⟩
  | 75 => ⟨S_, .f32⟩
  | 76 => ⟨S128, .f32⟩
  | 77 => ⟨S128, .f32⟩
  | 78 => ⟨S128, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S128, .f32⟩
  | 93 => ⟨S_, .f32⟩
  | 94 => ⟨S_, .f32⟩
  | 95 => ⟨S_, .f32⟩
  | 96 => ⟨S_, .f32⟩
  | 97 => ⟨S_, .f32⟩
  | 98 => ⟨S128x3x14x16x14x16, .f32⟩
  | 99 => ⟨S128x14x14x3x16x16, .f32⟩
  | 100 => ⟨S128x196x768, .f32⟩
  | 101 => ⟨S128x196x768, .f32⟩
  | 102 => ⟨S128x196x768, .f32⟩
  | 103 => ⟨S_, .f32⟩
  | 104 => ⟨S128x768, .f32⟩
  | 105 => ⟨S_, .f32⟩
  | 106 => ⟨S128x768, .f32⟩
  | 107 => ⟨S128x768, .f32⟩
  | 108 => ⟨S128x1000, .f32⟩
  | 109 => ⟨S_, .f32⟩
  | 110 => ⟨S128, .f32⟩
  | 111 => ⟨S_, .f32⟩
  | 112 => ⟨S128, .f32⟩
  | 113 => ⟨S128, .f32⟩
  | 114 => ⟨S128x1, .f32⟩
  | 115 => ⟨S128x1000, .f32⟩
  | 116 => ⟨S128x1000, .f32⟩
  | 117 => ⟨S128x1000, .f32⟩
  | 118 => ⟨S_, .f32⟩
  | 119 => ⟨S128, .f32⟩
  | 120 => ⟨S128x1, .f32⟩
  | 121 => ⟨S128x1, .f32⟩
  | 122 => ⟨S128x1000, .f32⟩
  | 123 => ⟨S128x1000, .f32⟩
  | 124 => ⟨S_, .f32⟩
  | 125 => ⟨S128, .f32⟩
  | 126 => ⟨S_, .f32⟩
  | 127 => ⟨S128, .f32⟩
  | _ => ⟨S128x3x224x224, .f32⟩

abbrev hbmTy0_1 (i : Nat) : BufTy := match i % 128 with
  | 0 => ⟨S128, .f32⟩
  | 1 => ⟨S128x1, .f32⟩
  | 2 => ⟨S128x1000, .f32⟩
  | 3 => ⟨S128x1000, .f32⟩
  | 4 => ⟨S128x1000, .f32⟩
  | 5 => ⟨S_, .f32⟩
  | 6 => ⟨S128, .f32⟩
  | 7 => ⟨S128x1, .f32⟩
  | 8 => ⟨S128x1, .f32⟩
  | 9 => ⟨S128x1000, .f32⟩
  | 10 => ⟨S128x1000, .f32⟩
  | 11 => ⟨S128x1000, .f32⟩
  | 12 => ⟨S128x1000, .f32⟩
  | 13 => ⟨S128x1000, .f32⟩
  | 14 => ⟨S_, .f32⟩
  | 15 => ⟨S_, .f32⟩
  | 16 => ⟨S_, .f32⟩
  | 17 => ⟨S_, .f32⟩
  | 18 => ⟨S128, .i32⟩
  | 19 => ⟨S128x1, .i32⟩
  | 20 => ⟨S_, .i32⟩
  | 21 => ⟨S128x1, .i32⟩
  | 22 => ⟨S128x1, .i1⟩
  | 23 => ⟨S_, .i32⟩
  | 24 => ⟨S128x1, .i32⟩
  | 25 => ⟨S128x1, .i32⟩
  | 26 => ⟨S128x1, .i32⟩
  | 27 => ⟨S_, .i32⟩
  | 28 => ⟨S128x49, .i32⟩
  | 29 => ⟨S128x49, .i1⟩
  | 30 => ⟨S_, .i32⟩
  | 31 => ⟨S128x49, .i32⟩
  | 32 => ⟨S128x49, .i32⟩
  | 33 => ⟨S128x49, .i32⟩
  | 34 => ⟨S128x49, .i32⟩
  | 35 => ⟨S128x49x1, .i32⟩
  | 36 => ⟨S128x49x1, .i32⟩
  | 37 => ⟨S128x49x2, .i32⟩
  | 38 => ⟨S128x49x768, .f32⟩
  | 39 => ⟨S6272, .f32⟩
  | 40 => ⟨S_, .f32⟩
  | 41 => ⟨S6272, .f32⟩
  | 42 => ⟨S6272, .i1⟩
  | 43 => ⟨S6272, .f32⟩
  | 44 => ⟨S_, .f32⟩
  | 45 => ⟨S_, .f32⟩
  | 46 => ⟨S6272x768, .f32⟩
  | 47 => ⟨S_, .f32⟩
  | 48 => ⟨S6272, .f32⟩
  | 49 => ⟨S_, .f32⟩
  | 50 => ⟨S6272, .f32⟩
  | 51 => ⟨S6272, .f32⟩
  | 52 => ⟨S6272x1, .f32⟩
  | 53 => ⟨S6272x768, .f32⟩
  | 54 => ⟨S6272x768, .f32⟩
  | 55 => ⟨S6272x768, .f32⟩
  | 56 => ⟨S_, .f32⟩
  | 57 => ⟨S6272, .f32⟩
  | 58 => ⟨S6272x1, .f32⟩
  | 59 => ⟨S6272x1, .f32⟩
  | 60 => ⟨S6272x768, .f32⟩
  | 61 => ⟨S6272x768, .f32⟩
  | 62 => ⟨S6272x768, .f32⟩
  | 63 => ⟨S_, .f32⟩
  | 64 => ⟨S6272, .f32⟩
  | 65 => ⟨S_, .f32⟩
  | 66 => ⟨S6272, .f32⟩
  | 67 => ⟨S6272, .f32⟩
  | 68 => ⟨S6272x1, .f32⟩
  | 69 => ⟨S6272x768, .f32⟩
  | 70 => ⟨S6272x768, .f32⟩
  | 71 => ⟨S6272x768, .f32⟩
  | 72 => ⟨S_, .f32⟩
  | 73 => ⟨S6272, .f32⟩
  | 74 => ⟨S6272x1, .f32⟩
  | 75 => ⟨S6272x1, .f32⟩
  | 76 => ⟨S6272x768, .f32⟩
  | 77 => ⟨S6272x768, .f32⟩
  | 78 => ⟨S6272x768, .f32⟩
  | 79 => ⟨S6272x768, .f32⟩
  | 80 => ⟨S6272x768, .f32⟩
  | 81 => ⟨S_, .f32⟩
  | 82 => ⟨S6272, .f32⟩
  | 83 => ⟨S_, .f32⟩
  | 84 => ⟨S_, .i1⟩
  | 85 => ⟨S6272, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | _ => ⟨S128x3x224x224, .f32⟩

abbrev hbmTy (i : Nat) : BufTy := match i / 128 with
  | 0 => hbmTy0_0 i
  | 1 => hbmTy0_1 i
  | _ => ⟨S128x3x224x224, .f32⟩

abbrev bufTy : (tb : Table) → Fin (tcTables nBuf tb) → BufTy
  | .hbm, ⟨i, _⟩ => hbmTy i
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst : Ref sig .tc := ⟨.hbm, 51, rfl⟩
abbrev main_v5 : Ref sig .tc := ⟨.hbm, 52, rfl⟩
abbrev main_cst_0 : Ref sig .tc := ⟨.hbm, 53, rfl⟩
abbrev main_v6 : Ref sig .tc := ⟨.hbm, 54, rfl⟩
abbrev main_cst_1 : Ref sig .tc := ⟨.hbm, 55, rfl⟩
abbrev main_v7 : Ref sig .tc := ⟨.hbm, 56, rfl⟩
abbrev main_cst_2 : Ref sig .tc := ⟨.hbm, 57, rfl⟩
abbrev main_v8 : Ref sig .tc := ⟨.hbm, 58, rfl⟩
abbrev main_v9 : Ref sig .tc := ⟨.hbm, 59, rfl⟩
abbrev main_cst_3 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_4 : Ref sig .tc := ⟨.hbm, 64, rfl⟩
abbrev main_v13 : Ref sig .tc := ⟨.hbm, 65, rfl⟩
abbrev main_cst_5 : Ref sig .tc := ⟨.hbm, 66, rfl⟩
abbrev main_v14 : Ref sig .tc := ⟨.hbm, 67, rfl⟩
abbrev main_cst_6 : Ref sig .tc := ⟨.hbm, 68, rfl⟩
abbrev main_v15 : Ref sig .tc := ⟨.hbm, 69, rfl⟩
abbrev main_cst_7 : Ref sig .tc := ⟨.hbm, 70, rfl⟩
abbrev main_v16 : Ref sig .tc := ⟨.hbm, 71, rfl⟩
abbrev main_cst_8 : Ref sig .tc := ⟨.hbm, 72, rfl⟩
abbrev main_v17 : Ref sig .tc := ⟨.hbm, 73, rfl⟩
abbrev main_v18 : Ref sig .tc := ⟨.hbm, 74, rfl⟩
abbrev main_cst_9 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_10 : Ref sig .tc := ⟨.hbm, 79, rfl⟩
abbrev main_v22 : Ref sig .tc := ⟨.hbm, 80, rfl⟩
abbrev main_cst_11 : Ref sig .tc := ⟨.hbm, 81, rfl⟩
abbrev main_v23 : Ref sig .tc := ⟨.hbm, 82, rfl⟩
abbrev main_v24 : Ref sig .tc := ⟨.hbm, 83, rfl⟩
abbrev main_cst_12 : Ref sig .tc := ⟨.hbm, 84, rfl⟩
abbrev main_v25 : Ref sig .tc := ⟨.hbm, 85, rfl⟩
abbrev main_cst_13 : Ref sig .tc := ⟨.hbm, 86, rfl⟩
abbrev main_v26 : Ref sig .tc := ⟨.hbm, 87, rfl⟩
abbrev main_v27 : Ref sig .tc := ⟨.hbm, 88, rfl⟩
abbrev main_cst_14 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_15 : Ref sig .tc := ⟨.hbm, 93, rfl⟩
abbrev main_v31 : Ref sig .tc := ⟨.hbm, 94, rfl⟩
abbrev main_cst_16 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_cst_17 : Ref sig .tc := ⟨.hbm, 103, rfl⟩
abbrev main_v39 : Ref sig .tc := ⟨.hbm, 104, rfl⟩
abbrev main_cst_18 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_call2_cst : Ref sig .tc := ⟨.hbm, 109, rfl⟩
abbrev main_call2_v0 : Ref sig .tc := ⟨.hbm, 110, rfl⟩
abbrev main_call2_cst_0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_cst_1 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_v43 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_cst_19 : Ref sig .tc := ⟨.hbm, 142, rfl⟩
abbrev main_v48 : Ref sig .tc := ⟨.hbm, 143, rfl⟩
abbrev main_cst_20 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_c : Ref sig .tc := ⟨.hbm, 148, rfl⟩
abbrev main_v52 : Ref sig .tc := ⟨.hbm, 149, rfl⟩
abbrev main_v53 : Ref sig .tc := ⟨.hbm, 150, rfl⟩
abbrev main_c_21 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_c_22 : Ref sig .tc := ⟨.hbm, 155, rfl⟩
abbrev main_v57 : Ref sig .tc := ⟨.hbm, 156, rfl⟩
abbrev main_v58 : Ref sig .tc := ⟨.hbm, 157, rfl⟩
abbrev main_c_23 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_cst_24 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_cst_25 : Ref sig .tc := ⟨.hbm, 172, rfl⟩
abbrev main_v71 : Ref sig .tc := ⟨.hbm, 173, rfl⟩
abbrev main_v72 : Ref sig .tc := ⟨.hbm, 174, rfl⟩
abbrev main_call4_cst : Ref sig .tc := ⟨.hbm, 175, rfl⟩
abbrev main_call4_v0 : Ref sig .tc := ⟨.hbm, 176, rfl⟩
abbrev main_call4_cst_0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_cst_1 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_v73 : Ref sig .tc := ⟨.hbm, 189, rfl⟩
abbrev main_v74 : Ref sig .tc := ⟨.hbm, 190, rfl⟩
abbrev main_call5_cst : Ref sig .tc := ⟨.hbm, 191, rfl⟩
abbrev main_call5_v0 : Ref sig .tc := ⟨.hbm, 192, rfl⟩
abbrev main_call5_cst_0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_call5_v5 : Ref sig .tc := ⟨.hbm, 198, rfl⟩
abbrev main_call5_v6 : Ref sig .tc := ⟨.hbm, 199, rfl⟩
abbrev main_call5_cst_1 : Ref sig .tc := ⟨.hbm, 200, rfl⟩
abbrev main_call5_v7 : Ref sig .tc := ⟨.hbm, 201, rfl⟩
abbrev main_call5_v8 : Ref sig .tc := ⟨.hbm, 202, rfl⟩
abbrev main_call5_v9 : Ref sig .tc := ⟨.hbm, 203, rfl⟩
abbrev main_call5_v10 : Ref sig .tc := ⟨.hbm, 204, rfl⟩
abbrev main_v75 : Ref sig .tc := ⟨.hbm, 205, rfl⟩
abbrev main_v76 : Ref sig .tc := ⟨.hbm, 206, rfl⟩
abbrev main_v77 : Ref sig .tc := ⟨.hbm, 207, rfl⟩
abbrev main_v78 : Ref sig .tc := ⟨.hbm, 208, rfl⟩
abbrev main_cst_26 : Ref sig .tc := ⟨.hbm, 209, rfl⟩
abbrev main_v79 : Ref sig .tc := ⟨.hbm, 210, rfl⟩
abbrev main_cst_27 : Ref sig .tc := ⟨.hbm, 211, rfl⟩
abbrev main_v80 : Ref sig .tc := ⟨.hbm, 212, rfl⟩
abbrev main_v81 : Ref sig .tc := ⟨.hbm, 213, rfl⟩
abbrev main_cst_28 : Ref sig .tc := ⟨.hbm, 214, rfl⟩
abbrev main_v82 : Ref sig .tc := ⟨.hbm, 215, rfl⟩
abbrev main_cst_29 : Ref sig .tc := ⟨.hbm, 216, rfl⟩
abbrev main_v83 : Ref sig .tc := ⟨.hbm, 217, rfl⟩
abbrev main_v84 : Ref sig .tc := ⟨.hbm, 218, rfl⟩
abbrev main_cst_30 : Ref sig .tc := ⟨.hbm, 219, rfl⟩
abbrev main_call6_v0 : Ref sig .tc := ⟨.hbm, 220, rfl⟩
abbrev main_v85 : Ref sig .tc := ⟨.hbm, 221, rfl⟩
abbrev main_cst_31 : Ref sig .tc := ⟨.hbm, 222, rfl⟩
abbrev main_v86 : Ref sig .tc := ⟨.hbm, 223, rfl⟩
abbrev main_cst_32 : Ref sig .tc := ⟨.hbm, 224, rfl⟩
abbrev main_v87 : Ref sig .tc := ⟨.hbm, 225, rfl⟩
abbrev main_cst_33 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_cst_34 : Ref sig .tc := ⟨.hbm, 230, rfl⟩
abbrev main_v91 : Ref sig .tc := ⟨.hbm, 231, rfl⟩
abbrev main_v92 : Ref sig .tc := ⟨.hbm, 232, rfl⟩
abbrev main_cst_35 : Ref sig .tc := ⟨.hbm, 233, rfl⟩
abbrev main_v93 : Ref sig .tc := ⟨.hbm, 234, rfl⟩
abbrev main_cst_36 : Ref sig .tc := ⟨.hbm, 235, rfl⟩
abbrev main_v94 : Ref sig .tc := ⟨.hbm, 236, rfl⟩
abbrev main_cst_37 : Ref sig .tc := ⟨.hbm, 237, rfl⟩
abbrev main_v95 : Ref sig .tc := ⟨.hbm, 238, rfl⟩

abbrev nD : Nat := 1
abbrev τ : Topo := Topo.v7x

variable {F : FTy → Type} [FloatOps F]
-- ==== Proof.Value.Math.lean ====
module

public import Idealize.ShloMosaic.Lib.Pointwise

@[expose] public section

set_option maxRecDepth 16384

noncomputable section

/-! The losses written over arrays of extended reals, and the facts about rows of real numbers that make the two ways
of writing a log-softmax and its divergence agree. -/

namespace Cert.Spec

open Idealize.ShloMosaic

/-! ## The literals -/

theorem lit_bot : Ideal.ofBits .f32 4286578688#32 = ⊥ := by simp [Ideal.ofBits, Ideal.ieee, -EReal.coe_mul]
theorem lit_196 : Ideal.ofBits .f32 1128529920#32 = ((196 : ℝ) : EReal) := by
  simp [Ideal.ofBits, Ideal.ieee, -EReal.coe_mul]; norm_num
theorem lit_128 : Ideal.ofBits .f32 1124073472#32 = ((128 : ℝ) : EReal) := by
  simp [Ideal.ofBits, Ideal.ieee, -EReal.coe_mul]; norm_num
theorem lit_half : Ideal.ofBits .f32 1056964608#32 = ((1 / 2 : ℝ) : EReal) := by
  simp [Ideal.ofBits, Ideal.ieee, -EReal.coe_mul]; norm_num

/-! ## Rows -/

/-- The greatest entry of a row. -/
def top {n : ℕ} (f : Fin n → EReal) : EReal := Finset.fold max (Ideal.ofBits .f32 4286578688#32) (fun x => f x) Finset.univ
/-- The sum of the row's exponentials, shifted by its greatest entry. -/
def sexp {n : ℕ} (f : Fin n → EReal) : EReal := ∑ x, Ideal.exp (f x - top f)
/-- The log-softmax of a row, entry by entry. -/
def lsm {n : ℕ} (f : Fin n → EReal) (k : Fin n) : EReal := f k - top f - Ideal.log (sexp f)
/-- The log of a row's sum of exponentials. -/
def lse {n : ℕ} (f : Fin n → EReal) : EReal := top f + Ideal.log (sexp f)
/-- The divergence of one row's softmax from another's. -/
def kld {n : ℕ} (t s : Fin n → EReal) : EReal := ∑ k, Ideal.exp (lsm t k) * (lsm t k - lsm s k)

/-- A row's entries are real numbers. -/
def RealRow {n : ℕ} (f : Fin n → EReal) : Prop := ∃ g : Fin n → ℝ, f = fun k => (g k : EReal)

theorem max_top {n : ℕ} (f : Fin n → EReal) : max (Ideal.ofBits .f32 4286578688#32) (top f) = top f := by
  rw [lit_bot]; exact max_eq_right bot_le

theorem fold_real {ι : Type} [DecidableEq ι] (g : ι → ℝ) (s : Finset ι) :
    s.fold max ⊥ (fun k => (g k : EReal)) = ⊥ ∧ s = ∅ ∨ ∃ M : ℝ, s.fold max ⊥ (fun k => (g k : EReal)) = (M : EReal) := by
  induction s using Finset.induction_on with
  | empty => exact Or.inl ⟨rfl, rfl⟩
  | insert a s ha ih =>
    right
    rw [Finset.fold_insert ha]
    rcases ih with ⟨h, -⟩ | ⟨M, h⟩
    · exact ⟨g a, by rw [h]; exact max_eq_left bot_le⟩
    · exact ⟨max (g a) M, by rw [h]; exact (EReal.coe_strictMono.monotone.map_max).symm⟩

theorem top_real {n : ℕ} (hn : 0 < n) (g : Fin n → ℝ) : ∃ M : ℝ, top (fun k => (g k : EReal)) = (M : EReal) := by
  unfold top
  rw [lit_bot]
  rcases fold_real g Finset.univ with ⟨-, h⟩ | h
  · exact absurd h (Finset.univ_nonempty_iff.mpr ⟨⟨0, hn⟩⟩).ne_empty
  · exact h

theorem coe_sum {ι : Type} (s : Finset ι) (g : ι → ℝ) : ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

/-- The pieces of a real row's log-softmax: its greatest entry and a positive sum of exponentials. -/
theorem row_parts {n : ℕ} (hn : 0 < n) (g : Fin n → ℝ) : ∃ M : ℝ, top (fun k => (g k : EReal)) = (M : EReal)
    ∧ sexp (fun k => (g k : EReal)) = ((∑ k, Real.exp (g k - M) : ℝ) : EReal) ∧ 0 < ∑ k, Real.exp (g k - M) := by
  obtain ⟨M, hM⟩ := top_real hn g
  refine ⟨M, hM, ?_, Finset.sum_pos (fun k _ => Real.exp_pos _) (Finset.univ_nonempty_iff.mpr ⟨⟨0, hn⟩⟩)⟩
  unfold sexp
  rw [hM, ← coe_sum]
  refine Finset.sum_congr rfl fun k _ => ?_
  rw [← EReal.coe_sub, Ideal.exp_coe]

theorem log_pos {S : ℝ} (h : 0 < S) : Ideal.log (S : EReal) = (Real.log S : EReal) := by
  rw [Ideal.log_coe, if_neg (not_le.mpr h)]

/-- The kernel subtracts the sum of the two parts at once. -/
theorem sub_lse {n : ℕ} (hn : 0 < n) {f : Fin n → EReal} (hf : RealRow f) (k : Fin n) : f k - lse f = lsm f k := by
  obtain ⟨g, rfl⟩ := hf
  obtain ⟨M, hM, hS, hpos⟩ := row_parts hn g
  unfold lse lsm
  rw [hM, hS, log_pos hpos, ← EReal.coe_add, ← EReal.coe_sub, ← EReal.coe_sub, ← EReal.coe_sub]
  congr 1; ring

theorem lsm_real {n : ℕ} (hn : 0 < n) {f : Fin n → EReal} (hf : RealRow f) : RealRow (lsm f) := by
  obtain ⟨g, rfl⟩ := hf
  obtain ⟨M, hM, hS, hpos⟩ := row_parts hn g
  refine ⟨fun k => g k - M - Real.log (∑ k, Real.exp (g k - M)), funext fun k => ?_⟩
  unfold lsm
  rw [hM, hS, log_pos hpos, ← EReal.coe_sub, ← EReal.coe_sub]

/-- The divergence as the kernel writes it: the softmax weights the difference of the rows, and the two logs of sums of
    exponentials enter once. -/
theorem kld_eq {n : ℕ} (hn : 0 < n) {t s : Fin n → EReal} (ht : RealRow t) (hs : RealRow s) :
    (∑ k, Ideal.div (Ideal.exp (t k - top t)) (sexp t) * (t k - s k)) - lse t + lse s = kld t s := by
  obtain ⟨a, rfl⟩ := ht
  obtain ⟨b, rfl⟩ := hs
  obtain ⟨M, hM, hS, hpos⟩ := row_parts hn a
  obtain ⟨N, hN, hT, hpos'⟩ := row_parts hn b
  unfold kld lse lsm
  rw [hM, hN, hS, hT, log_pos hpos, log_pos hpos']
  set S : ℝ := ∑ k, Real.exp (a k - M) with hSdef
  set T : ℝ := ∑ k, Real.exp (b k - N)
  have e1 : ∀ k, Ideal.div (Ideal.exp ((a k : EReal) - (M : EReal))) (S : EReal) * ((a k : EReal) - (b k : EReal))
      = ((Real.exp (a k - M) / S * (a k - b k) : ℝ) : EReal) := fun k => by
    rw [Ideal.div_coe hpos.ne', ← EReal.coe_sub, Ideal.exp_coe, ← EReal.coe_sub, ← EReal.coe_mul, ← EReal.coe_mul]
    congr 2; ring
  have e2 : ∀ k, Ideal.exp ((a k : EReal) - (M : EReal) - (Real.log S : EReal))
      * ((a k : EReal) - (M : EReal) - (Real.log S : EReal) - ((b k : EReal) - (N : EReal) - (Real.log T : EReal)))
      = ((Real.exp (a k - M) / S * (a k - b k) + Real.exp (a k - M) / S * ((N + Real.log T) - (M + Real.log S)) : ℝ) : EReal) := fun k => by
    simp only [← EReal.coe_sub, Ideal.exp_coe, ← EReal.coe_mul]
    rw [Real.exp_sub, Real.exp_log hpos]
    congr 1; ring
  simp only [e1, e2, coe_sum]
  rw [← EReal.coe_add, ← EReal.coe_add, ← EReal.coe_sub, ← EReal.coe_add, Finset.sum_add_distrib, ← Finset.sum_mul,
    ← Finset.sum_div, ← hSdef, div_self hpos.ne']
  congr 1; ring

theorem exp_real {x : EReal} (h : ∃ r : ℝ, x = r) : ∃ r : ℝ, Ideal.exp x = r := by
  obtain ⟨r, rfl⟩ := h; exact ⟨_, Ideal.exp_coe r⟩
theorem mul_real {x y : EReal} (h : ∃ r : ℝ, x = r) (h' : ∃ r : ℝ, y = r) : ∃ r : ℝ, x * y = r := by
  obtain ⟨r, rfl⟩ := h; obtain ⟨q, rfl⟩ := h'; exact ⟨_, (EReal.coe_mul r q).symm⟩
theorem sub_real {x y : EReal} (h : ∃ r : ℝ, x = r) (h' : ∃ r : ℝ, y = r) : ∃ r : ℝ, x - y = r := by
  obtain ⟨r, rfl⟩ := h; obtain ⟨q, rfl⟩ := h'; exact ⟨_, (EReal.coe_sub r q).symm⟩
theorem sum_real {ι : Type} (s : Finset ι) {f : ι → EReal} (h : ∀ k ∈ s, ∃ r : ℝ, f k = r) : ∃ r : ℝ, ∑ k ∈ s, f k = r := by
  classical
  choose! g hg using h
  exact ⟨∑ k ∈ s, g k, by rw [← coe_sum]; exact Finset.sum_congr rfl hg⟩
theorem div_real {x : EReal} {y : ℝ} (h : ∃ r : ℝ, x = r) (hy : y ≠ 0) : ∃ r : ℝ, Ideal.div x y = r := by
  obtain ⟨r, rfl⟩ := h; exact ⟨r * (1 / y), by rw [Ideal.div_coe hy, EReal.coe_mul]⟩
theorem row_of_real {n : ℕ} {f : Fin n → EReal} (h : ∀ k, ∃ r : ℝ, f k = r) : RealRow f := by
  choose g hg using h; exact ⟨g, funext hg⟩
theorem RealRow.real {n : ℕ} {f : Fin n → EReal} (h : RealRow f) (k : Fin n) : ∃ r : ℝ, f k = r := by
  obtain ⟨g, rfl⟩ := h; exact ⟨g k, rfl⟩

theorem kld_real {n : ℕ} (hn : 0 < n) {t s : Fin n → EReal} (ht : RealRow t) (hs : RealRow s) : ∃ r : ℝ, kld t s = r :=
  sum_real _ fun k _ => mul_real (exp_real ((lsm_real hn ht).real k)) (sub_real ((lsm_real hn ht).real k) ((lsm_real hn hs).real k))

/-- The hyperbolic tangent is a real number everywhere. -/
theorem tanh_real (x : EReal) : ∃ r : ℝ, Ideal.tanh x = r := by
  induction x with
  | bot => exact ⟨-1, by rw [Ideal.tanh_bot]; simp⟩
  | top => exact ⟨1, by rw [Ideal.tanh_top]; simp⟩
  | coe r => exact ⟨_, Ideal.tanh_coe r⟩

/-- An extended real whose difference with itself is zero is a real number. -/
theorem real_of_sub_self {x : EReal} (h : x - x = 0) : ∃ r : ℝ, x = r := by
  induction x with
  | bot => simp at h
  | top => simp at h
  | coe r => exact ⟨r, rfl⟩

/-! ## The losses -/

abbrev Arr (r : ℕ) (d : Fin r → ℕ) : Type := (⟨r, d⟩ : Shape).Idx → EReal
abbrev Wrd (r : ℕ) (d : Fin r → ℕ) : Type := (⟨r, d⟩ : Shape).Idx → BitVec 32

/-- The `k`-th pixel of patch `p` of image `b`, in the order channel, row, column. -/
def pix (X : Arr 4 ![128, 3, 224, 224]) (b : Fin 128) (p : Fin 196) (k : Fin 768) : EReal :=
  X (ix4 b (⟨k.val / 256, by omega⟩ : Fin 3) (⟨p.val / 14 * 16 + k.val / 16 % 16, by omega⟩ : Fin 224)
    (⟨p.val % 14 * 16 + k.val % 16, by omega⟩ : Fin 224))

/-- The teacher's token of patch `p` of image `b`. -/
def tok (X : Arr 4 ![128, 3, 224, 224]) (W : Arr 2 ![768, 768]) (b : Fin 128) (p : Fin 196) (d : Fin 768) : EReal :=
  Ideal.tanh (∑ k : Fin 768, pix X b p k * W (ix2 k d))

/-- The teacher's logits: the mean token through the classifier. -/
def logit (X : Arr 4 ![128, 3, 224, 224]) (W : Arr 2 ![768, 768]) (C : Arr 2 ![768, 1000]) (b : Fin 128) (n : Fin 1000) : EReal :=
  ∑ d : Fin 768, Ideal.div (∑ p, tok X W b p d) (Ideal.ofBits .f32 1128529920#32) * C (ix2 d n)

/-- The student's logits of image `b`. -/
def row2 {B N : ℕ} (T : Arr 2 ![B, N]) (b : Fin B) : Fin N → EReal := fun n => T (ix2 b n)
def row3 {B L N : ℕ} (T : Arr 3 ![B, L, N]) (b : Fin B) (l : Fin L) : Fin N → EReal := fun n => T (ix3 b l n)

/-- A word read as an index below `n`. -/
def at' (n : ℕ) (hn : 0 < n) (w : BitVec 32) : Fin n := ⟨min w.toInt.toNat (n - 1), by omega⟩

/-- The cross entropy of the student's logits and the labels. -/
def ce (T : Arr 2 ![128, 1000]) (L : Wrd 1 ![128]) : EReal :=
  Ideal.div (∑ b : Fin 128, -lsm (row2 T b) (at' 1000 (by norm_num) (L (ix1 b)))) (Ideal.ofBits .f32 1124073472#32)

/-- The divergence of the teacher's classes from the student's. -/
def kl (X : Arr 4 ![128, 3, 224, 224]) (W : Arr 2 ![768, 768]) (C : Arr 2 ![768, 1000]) (T : Arr 2 ![128, 1000]) : EReal :=
  Ideal.div (∑ b : Fin 128, kld (logit X W C b) (row2 T b)) (Ideal.ofBits .f32 1124073472#32)

/-- Which tokens the distillation keeps: those with a policy above a half. -/
def sel (M : Arr 2 ![128, 49]) (b : Fin 128) (l : Fin 49) : EReal := if Ideal.ofBits .f32 1056964608#32 < M (ix2 b l) then 1 else 0

/-- The divergence of the teacher's token at the student's position from the student's token. -/
def tkl (X : Arr 4 ![128, 3, 224, 224]) (W : Arr 2 ![768, 768]) (O : Arr 3 ![128, 49, 768]) (P : Wrd 2 ![128, 49]) (b : Fin 128) (l : Fin 49) : EReal :=
  kld (tok X W b (at' 196 (by norm_num) (P (ix2 b l)))) (row3 O b l)

/-- The distillation loss: the mean divergence over the kept tokens. -/
def dist (X : Arr 4 ![128, 3, 224, 224]) (W : Arr 2 ![768, 768]) (O : Arr 3 ![128, 49, 768]) (P : Wrd 2 ![128, 49]) (M : Arr 2 ![128, 49]) : EReal :=
  if ∑ b, ∑ l, sel M b l < Ideal.ofBits .f32 1036831949#32 then 0
  else Ideal.div (∑ b, ∑ l, tkl X W O P b l * sel M b l) (max (∑ b, ∑ l, sel M b l) 1)

/-- One stage's mean squared distance of its keep ratio from the wanted one. -/
def keep (D : Arr 2 ![128, 196]) (q : EReal) : EReal :=
  Ideal.div (∑ b : Fin 128, (Ideal.div (∑ x : Fin 196, D (ix2 b x)) (Ideal.ofBits .f32 1128529920#32) - q)
    * (Ideal.div (∑ x : Fin 196, D (ix2 b x)) (Ideal.ofBits .f32 1128529920#32) - q)) (Ideal.ofBits .f32 1124073472#32)

/-- The ratio loss over the three stages. -/
def ratio (D₀ D₁ D₂ : Arr 2 ![128, 196]) : EReal :=
  Ideal.div (Ideal.ofBits .f32 1073741824#32 * (keep D₀ (Ideal.ofBits .f32 1061158912#32) + keep D₁ (Ideal.ofBits .f32 1056964608#32)
    + keep D₂ (Ideal.ofBits .f32 1048576000#32))) (Ideal.ofBits .f32 1077936128#32)

end Cert.Spec
-- ==== Proof.Ideal.Region0.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.TableIdle
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! The teacher's pipeline (the first `pallas_call`): what its body does at each grid point, from any contents
`V` of the device's buffers at its entry. -/

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block that window `w` reads at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S3x1x16x14x16x128 := Rect.unit (s := S3x1x16x14x16x128) ![0, 0, 0, 0, 0, 0] S3x1x16x1x16x128.size inb_S3x1x16x14x16x128_S3x1x16x1x16x128_0_0_0_0_0_0
abbrev r0_1 : Rect S768x768 := Rect.unit (s := S768x768) ![0, 0] S768x768.size inb_S768x768_S768x768_0_0
abbrev r0_2 : Rect S14x128x768 := Rect.unit (s := S14x128x768) ![0, 0, 0] S1x128x768.size inb_S14x128x768_S1x128x768_0_0_0
abbrev r0_3 : Rect S3x1x16x14x16x128 := Rect.unit (s := S3x1x16x14x16x128) ![0, 0, 0, 1, 0, 0] S3x1x16x1x16x128.size inb_S3x1x16x14x16x128_S3x1x16x1x16x128_0_0_0_1_0_0
abbrev r0_4 : Rect S14x128x768 := Rect.unit (s := S14x128x768) ![1, 0, 0] S1x128x768.size inb_S14x128x768_S1x128x768_1_0_0
abbrev r0_5 : Rect S3x1x16x14x16x128 := Rect.unit (s := S3x1x16x14x16x128) ![0, 0, 0, 2, 0, 0] S3x1x16x1x16x128.size inb_S3x1x16x14x16x128_S3x1x16x1x16x128_0_0_0_2_0_0
abbrev r0_6 : Rect S14x128x768 := Rect.unit (s := S14x128x768) ![2, 0, 0] S1x128x768.size inb_S14x128x768_S1x128x768_2_0_0
abbrev r0_7 : Rect S3x1x16x14x16x128 := Rect.unit (s := S3x1x16x14x16x128) ![0, 0, 0, 3, 0, 0] S3x1x16x1x16x128.size inb_S3x1x16x14x16x128_S3x1x16x1x16x128_0_0_0_3_0_0
abbrev r0_8 : Rect S14x128x768 := Rect.unit (s := S14x128x768) ![3, 0, 0] S1x128x768.size inb_S14x128x768_S1x128x768_3_0_0
abbrev r0_9 : Rect S3x1x16x14x16x128 := Rect.unit (s := S3x1x16x14x16x128) ![0, 0, 0, 4, 0, 0] S3x1x16x1x16x128.size inb_S3x1x16x14x16x128_S3x1x16x1x16x128_0_0_0_4_0_0
abbrev r0_10 : Rect S14x128x768 := Rect.unit (s := S14x128x768) ![4, 0, 0] S1x128x768.size inb_S14x128x768_S1x128x768_4_0_0
abbrev r0_11 : Rect S3x1x16x14x16x128 := Rect.unit (s := S3x1x16x14x16x128) ![0, 0, 0, 5, 0, 0] S3x1x16x1x16x128.size inb_S3x1x16x14x16x128_S3x1x16x1x16x128_0_0_0_5_0_0
abbrev r0_12 : Rect S14x128x768 := Rect.unit (s := S14x128x768) ![5, 0, 0] S1x128x768.size inb_S14x128x768_S1x128x768_5_0_0
abbrev r0_13 : Rect S3x1x16x14x16x128 := Rect.unit (s := S3x1x16x14x16x128) ![0, 0, 0, 6, 0, 0] S3x1x16x1x16x128.size inb_S3x1x16x14x16x128_S3x1x16x1x16x128_0_0_0_6_0_0
abbrev r0_14 : Rect S14x128x768 := Rect.unit (s := S14x128x768) ![6, 0, 0] S1x128x768.size inb_S14x128x768_S1x128x768_6_0_0
abbrev r0_15 : Rect S3x1x16x14x16x128 := Rect.unit (s := S3x1x16x14x16x128) ![0, 0, 0, 7, 0, 0] S3x1x16x1x16x128.size inb_S3x1x16x14x16x128_S3x1x16x1x16x128_0_0_0_7_0_0
abbrev r0_16 : Rect S14x128x768 := Rect.unit (s := S14x128x768) ![7, 0, 0] S1x128x768.size inb_S14x128x768_S1x128x768_7_0_0
abbrev r0_17 : Rect S3x1x16x14x16x128 := Rect.unit (s := S3x1x16x14x16x128) ![0, 0, 0, 8, 0, 0] S3x1x16x1x16x128.size inb_S3x1x16x14x16x128_S3x1x16x1x16x128_0_0_0_8_0_0
abbrev r0_18 : Rect S14x128x768 := Rect.unit (s := S14x128x768) ![8, 0, 0] S1x128x768.size inb_S14x128x768_S1x128x768_8_0_0
abbrev r0_19 : Rect S3x1x16x14x16x128 := Rect.unit (s := S3x1x16x14x16x128) ![0, 0, 0, 9, 0, 0] S3x1x16x1x16x128.size inb_S3x1x16x14x16x128_S3x1x16x1x16x128_0_0_0_9_0_0
abbrev r0_20 : Rect S14x128x768 := Rect.unit (s := S14x128x768) ![9, 0, 0] S1x128x768.size inb_S14x128x768_S1x128x768_9_0_0
abbrev r0_21 : Rect S3x1x16x14x16x128 := Rect.unit (s := S3x1x16x14x16x128) ![0, 0, 0, 10, 0, 0] S3x1x16x1x16x128.size inb_S3x1x16x14x16x128_S3x1x16x1x16x128_0_0_0_10_0_0
abbrev r0_22 : Rect S14x128x768 := Rect.unit (s := S14x128x768) ![10, 0, 0] S1x128x768.size inb_S14x128x768_S1x128x768_10_0_0
abbrev r0_23 : Rect S3x1x16x14x16x128 := Rect.unit (s := S3x1x16x14x16x128) ![0, 0, 0, 11, 0, 0] S3x1x16x1x16x128.size inb_S3x1x16x14x16x128_S3x1x16x1x16x128_0_0_0_11_0_0
abbrev r0_24 : Rect S14x128x768 := Rect.unit (s := S14x128x768) ![11, 0, 0] S1x128x768.size inb_S14x128x768_S1x128x768_11_0_0
abbrev r0_25 : Rect S3x1x16x14x16x128 := Rect.unit (s := S3x1x16x14x16x128) ![0, 0, 0, 12, 0, 0] S3x1x16x1x16x128.size inb_S3x1x16x14x16x128_S3x1x16x1x16x128_0_0_0_12_0_0
abbrev r0_26 : Rect S14x128x768 := Rect.unit (s := S14x128x768) ![12, 0, 0] S1x128x768.size inb_S14x128x768_S1x128x768_12_0_0
abbrev r0_27 : Rect S3x1x16x14x16x128 := Rect.unit (s := S3x1x16x14x16x128) ![0, 0, 0, 13, 0, 0] S3x1x16x1x16x128.size inb_S3x1x16x14x16x128_S3x1x16x1x16x128_0_0_0_13_0_0
abbrev r0_28 : Rect S14x128x768 := Rect.unit (s := S14x128x768) ![13, 0, 0] S1x128x768.size inb_S14x128x768_S1x128x768_13_0_0
abbrev r0_29 : Rect S128x768 := Rect.unit (s := S128x768) ![0, 0] S128x768.size inb_S128x768_S128x768_0_0

/-- The teacher's tokens of one patch column, from the column's slab and the weights. -/
abbrev zOf (x : Vec F S3x1x16x1x16x128 .f32) (x1 : Vec F S768x768 .bf16) : FVec F S128x768 .f32 :=
  k0_pay4 x (View.ld x1 r0_1)

/-- The sum of a point's fourteen columns, as the body adds them up. -/
def acc0 (x0 : Vec F S3x1x16x14x16x128 .f32) (x1 : Vec F S768x768 .bf16) : FVec F S128x768 .f32 :=
  addf (addf (addf (addf (addf (addf (addf (addf (addf (addf (addf (addf (k0_pay8 (View.ld x0 r0_0) (View.ld x1 r0_1) (View.ld x0 r0_3) (View.ld x1 r0_1)) (zOf (View.ld x0 r0_5) x1)) (zOf (View.ld x0 r0_7) x1)) (zOf (View.ld x0 r0_9) x1)) (zOf (View.ld x0 r0_11) x1)) (zOf (View.ld x0 r0_13) x1)) (zOf (View.ld x0 r0_15) x1)) (zOf (View.ld x0 r0_17) x1)) (zOf (View.ld x0 r0_19) x1)) (zOf (View.ld x0 r0_21) x1)) (zOf (View.ld x0 r0_23) x1)) (zOf (View.ld x0 r0_25) x1)) (zOf (View.ld x0 r0_27) x1)

/-- The token window after the body: one slab per column, last store first. -/
def out0_2 (x0 : Vec F S3x1x16x14x16x128 .f32) (x1 : Vec F S768x768 .bf16) : Vec F S14x128x768 .bf16 :=
  View.canon [⟨r0_28, k0_pay5 (View.ld x0 r0_27) (View.ld x1 r0_1)⟩,
    ⟨r0_26, k0_pay5 (View.ld x0 r0_25) (View.ld x1 r0_1)⟩,
    ⟨r0_24, k0_pay5 (View.ld x0 r0_23) (View.ld x1 r0_1)⟩,
    ⟨r0_22, k0_pay5 (View.ld x0 r0_21) (View.ld x1 r0_1)⟩,
    ⟨r0_20, k0_pay5 (View.ld x0 r0_19) (View.ld x1 r0_1)⟩,
    ⟨r0_18, k0_pay5 (View.ld x0 r0_17) (View.ld x1 r0_1)⟩,
    ⟨r0_16, k0_pay5 (View.ld x0 r0_15) (View.ld x1 r0_1)⟩,
    ⟨r0_14, k0_pay5 (View.ld x0 r0_13) (View.ld x1 r0_1)⟩,
    ⟨r0_12, k0_pay5 (View.ld x0 r0_11) (View.ld x1 r0_1)⟩,
    ⟨r0_10, k0_pay5 (View.ld x0 r0_9) (View.ld x1 r0_1)⟩,
    ⟨r0_8, k0_pay5 (View.ld x0 r0_7) (View.ld x1 r0_1)⟩,
    ⟨r0_6, k0_pay5 (View.ld x0 r0_5) (View.ld x1 r0_1)⟩,
    ⟨r0_4, k0_pay5 (View.ld x0 r0_3) (View.ld x1 r0_1)⟩,
    ⟨r0_2, k0_pay5 (View.ld x0 r0_0) (View.ld x1 r0_1)⟩]

/-- The running sum's window after the first point's body. -/
def out0_3A (x0 : Vec F S3x1x16x14x16x128 .f32) (x1 : Vec F S768x768 .bf16) : Vec F S128x768 .f32 :=
  View.canon [⟨r0_29, acc0 x0 x1⟩]

/-- The running sum's window after a later point's body, from what it held. -/
def out0_3B (x0 : Vec F S3x1x16x14x16x128 .f32) (x1 : Vec F S768x768 .bf16) (xo : Vec F S128x768 .f32) : Vec F S128x768 .f32 :=
  View.canon [⟨r0_29, addf (shapeCast S128x768 (View.ld xo r0_29) shapeCasts_S128x768_S128x768) (acc0 x0 x1)⟩]

/-- The fourteen stores cover the tokens' block. -/
theorem cover0_2 (p0 : Vec F S1x128x768 .bf16) (p1 : Vec F S1x128x768 .bf16) (p2 : Vec F S1x128x768 .bf16) (p3 : Vec F S1x128x768 .bf16) (p4 : Vec F S1x128x768 .bf16) (p5 : Vec F S1x128x768 .bf16) (p6 : Vec F S1x128x768 .bf16) (p7 : Vec F S1x128x768 .bf16) (p8 : Vec F S1x128x768 .bf16) (p9 : Vec F S1x128x768 .bf16) (p10 : Vec F S1x128x768 .bf16) (p11 : Vec F S1x128x768 .bf16) (p12 : Vec F S1x128x768 .bf16) (p13 : Vec F S1x128x768 .bf16) (y : S14x128x768.Idx) :
    ∃ pc ∈ ([⟨r0_28, p0⟩, ⟨r0_26, p1⟩, ⟨r0_24, p2⟩, ⟨r0_22, p3⟩, ⟨r0_20, p4⟩, ⟨r0_18, p5⟩, ⟨r0_16, p6⟩, ⟨r0_14, p7⟩, ⟨r0_12, p8⟩, ⟨r0_10, p9⟩, ⟨r0_8, p10⟩, ⟨r0_6, p11⟩, ⟨r0_4, p12⟩, ⟨r0_2, p13⟩] : List (View.Piece (Elt F) S14x128x768 .bf16)), y ∈ pc.1.set :=
  View.cover_of_tiled [⟨r0_28, p0⟩, ⟨r0_26, p1⟩, ⟨r0_24, p2⟩, ⟨r0_22, p3⟩, ⟨r0_20, p4⟩, ⟨r0_18, p5⟩, ⟨r0_16, p6⟩, ⟨r0_14, p7⟩, ⟨r0_12, p8⟩, ⟨r0_10, p9⟩, ⟨r0_8, p10⟩, ⟨r0_6, p11⟩, ⟨r0_4, p12⟩, ⟨r0_2, p13⟩] S1x128x768.size (by rfl) y
/-- One store covers the sum's block. -/
theorem cover0_3 (p0 : Vec F S128x768 .f32) (y : S128x768.Idx) :
    ∃ pc ∈ ([⟨r0_29, p0⟩] : List (View.Piece (Elt F) S128x768 .f32)), y ∈ pc.1.set :=
  View.cover_of_tiled [⟨r0_29, p0⟩] S128x768.size (by rfl) y
/-- The body's first test: the first grid point. -/
abbrev cond0_0 (i : grid0.Coords) : Prop := k0_cond1 i = 1#1
/-- The first branch runs at the first grid point alone. -/
theorem hcond0_0 : ∀ t : Fin cfg0.N, cond0_0 (grid0.coords t) ↔ t.val = 0 :=
  (by decide +kernel : ∀ t : Fin grid0.N, cond0_0 (grid0.coords t) ↔ t.val = 0)
/-- The body's second test: the later grid points. -/
abbrev cond0_1 (i : grid0.Coords) : Prop := k0_cond2 i = 1#1
/-- The second branch runs at every later grid point. -/
theorem hcond0_1 : ∀ t : Fin cfg0.N, cond0_1 (grid0.coords t) ↔ 1 ≤ t.val :=
  (by decide +kernel : ∀ t : Fin grid0.N, cond0_1 (grid0.coords t) ↔ 1 ≤ t.val)

/-- No window is idle at any point: one of the two tests holds at each. -/
theorem live0 : ∀ (w : Fin cfg0.W) (t : Fin cfg0.N), cfg0.idle w (grid0.coords t) = false :=
  (by decide +kernel : ∀ (w : Fin 4) (t : Fin grid0.N), cfg0.idle w (grid0.coords t) = false)

/-- Whether the running sum's buffer is fresh at a position: only at the start and after the last point. -/
def freshTab0_3 : ℕ → Bool
  | 0 => true
  | n + 1 => n == 13
/-- The table of the sum's fresh points follows the window's walk. -/
theorem freshTab0_3_step : ∀ t : Fin cfg0.N,
    freshTab0_3 (t.val + 1) = ((cfg0.win 3).flush t || (cfg0.idle 3 (cfg0.grid.coords t) && freshTab0_3 t.val)) := by decide +kernel
/-- The sum's block is fresh where the table says so. -/
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- After the first grid point the sum's block is never fresh. -/
theorem notFresh0_3 : ∀ t : Fin cfg0.N, 1 ≤ t.val → cfg0.fresh 3 t.val = false := by
  intro t; rw [fresh0_3_eq t]; revert t; decide +kernel

set_option maxHeartbeats 1000000 in
/-- The body's triple at the first point. -/
theorem sound_kernel0A (c : Dev nD) (E : Set ℕ) (i : grid0.Coords) (arg1 : Memref sig .tc .vmem S3x1x16x14x16x128 .f32) (harg1 : arg1.IsWhole) (arg2 : Memref sig .tc .vmem S768x768 .bf16) (harg2 : arg2.IsWhole) (arg3 : Memref sig .tc .vmem S14x128x768 .bf16) (harg3 : arg3.IsWhole) (arg4 : Memref sig .tc .vmem S128x768 .f32) (harg4 : arg4.IsWhole) (hc0 : cond0_0 i) (hc1 : ¬cond0_1 i)
    (x0 : Vec F S3x1x16x14x16x128 .f32) (x1 : Vec F S768x768 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3A x0 x1)) -∗ K ⟨⟩))
      ⊢ wp frame (wpE (defs₀ (F := F)) Variants.none c none) E (cc0__teacher_kernel i arg1 harg1 arg2 harg2 arg3 harg3 arg4 harg4) K := by
  simp only [cc0__teacher_kernel_eq_skeleton]; unfold cc0__teacher_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _ _ _ _ _ _ _)).trans ?_
    rfl
  iexists _; isplitr
  swap; · iexact H3
  ipureintro
  refine (View.read_writes_eq_canon _ _ _ (cover0_3 _)).trans ?_
  rfl

set_option maxHeartbeats 1000000 in
/-- The body's triple at a later point, the running sum at `xo`. -/
theorem sound_kernel0B (c : Dev nD) (E : Set ℕ) (i : grid0.Coords) (arg1 : Memref sig .tc .vmem S3x1x16x14x16x128 .f32) (harg1 : arg1.IsWhole) (arg2 : Memref sig .tc .vmem S768x768 .bf16) (harg2 : arg2.IsWhole) (arg3 : Memref sig .tc .vmem S14x128x768 .bf16) (harg3 : arg3.IsWhole) (arg4 : Memref sig .tc .vmem S128x768 .f32) (harg4 : arg4.IsWhole) (hc0 : ¬cond0_0 i) (hc1 : cond0_1 i)
    (x0 : Vec F S3x1x16x14x16x128 .f32) (x1 : Vec F S768x768 .bf16) (xo : Vec F S128x768 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xo
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3B x0 x1 xo)) -∗ K ⟨⟩))
      ⊢ wp frame (wpE (defs₀ (F := F)) Variants.none c none) E (cc0__teacher_kernel i arg1 harg1 arg2 harg2 arg3 harg3 arg4 harg4) K := by
  simp only [cc0__teacher_kernel_eq_skeleton]; unfold cc0__teacher_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _ _ _ _ _ _ _)).trans ?_
    rfl
  iexists _; isplitr
  swap; · iexact H3
  ipureintro
  refine (View.read_writes_eq_canon _ _ _ (cover0_3 _)).trans ?_
  rfl

/-- What the running sum's buffer holds after the body at position `n`. -/
def sumAt0 (c : Dev nD) : (n : ℕ) → n < cfg0.N → Vec F S128x768 .f32
  | 0, hn => out0_3A (iblk0 V c 0 ⟨0, hn⟩) (iblk0 V c 1 ⟨0, hn⟩)
  | n + 1, hn => out0_3B (iblk0 V c 0 ⟨n + 1, hn⟩) (iblk0 V c 1 ⟨n + 1, hn⟩) (sumAt0 c n (Nat.lt_of_succ_lt hn))

/-- The sum after the first grid point. -/
theorem sumAt0_A (c : Dev nD) (t : Fin cfg0.N) (h : t.val = 0) :
    sumAt0 V c t.val t.isLt = out0_3A (iblk0 V c 0 t) (iblk0 V c 1 t) := by
  obtain ⟨n, hn⟩ := t
  obtain rfl : n = 0 := h
  rfl

/-- The sum after a later grid point. -/
theorem sumAt0_B (c : Dev nD) (t : Fin cfg0.N) (h : 1 ≤ t.val) :
    sumAt0 V c t.val t.isLt = out0_3B (iblk0 V c 0 t) (iblk0 V c 1 t)
      (sumAt0 V c (t.val - 1) (Nat.lt_of_le_of_lt (Nat.sub_le _ _) t.isLt)) := by
  obtain ⟨n, hn⟩ := t
  cases n with
  | zero => exact absurd h (by simp)
  | succ n => rfl

/-- The proof data of the teacher's pipeline: each input's buffer at its block, the tokens of the point, and
    the running sum so far. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => sumAt0 V c t.val t.isLt
  Φ _ := Pipeline.ΦA spec0 c
  q _ := fullShare
  owed _ := 0

/-- Every window's array at entry. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = sumAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- No point leaves the running sum's window idle. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  rw [live0 3 t] at hi
  exact absurd hi Bool.false_ne_true

/-- At a later point the running sum's buffer holds what the point before left. -/
theorem before0_3 (c : Dev nD) (t : Fin cfg0.N) (h : 1 ≤ t.val) (d) :
    (dat0 V c).before 3 t d = sumAt0 V c (t.val - 1) (Nat.lt_of_le_of_lt (Nat.sub_le _ _) t.isLt) := by
  rw [Dat.before_out_traj _ 3 rfl (fun _ _ => rfl) (hcarry0_3 V c) t.val t rfl d,
    if_neg (by rw [notFresh0_3 t h]; exact Bool.false_ne_true)]
  dsimp only [dat0]

/-- What the body owns before grid point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body owns after grid point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
      unfold Dat.leavesExact; rw [live0 0 t], after0_0]
  rw [show (dat0 V c).leavesExact 1 t = owns (c : Thread nD τ) (st0_1 t) fullShare ((dat0 V c).after 1 t) from by
      unfold Dat.leavesExact; rw [live0 1 t], after0_1]
  rw [show (dat0 V c).leavesExact 2 t = owns (c : Thread nD τ) (st0_2 t) fullShare ((dat0 V c).after 2 t) from by
      unfold Dat.leavesExact; rw [live0 2 t], after0_2]
  rw [show (dat0 V c).leavesExact 3 t = owns (c : Thread nD τ) (st0_3 t) fullShare ((dat0 V c).after 3 t) from by
      unfold Dat.leavesExact; rw [live0 3 t], after0_3]
  by_cases h0 : t.val = 0
  · rw [sumAt0_A V c t h0]
    iintro ⟨HΦ, Ho, ⟨%d0, H0⟩, ⟨%d1, H1⟩, ⟨%d2, H2⟩, ⟨%d3, H3⟩⟩
    iapply (sound_kernel0A c Set.univ (grid0.coords t) _ _ _ _ _ _ _ _ ((hcond0_0 t).mpr h0) (fun h => absurd ((hcond0_1 t).mp h) (by omega)) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have h1 : 1 ≤ t.val := by omega
    rw [sumAt0_B V c t h1]
    simp only [before0_3 V c t h1]
    iintro ⟨HΦ, Ho, ⟨%d0, H0⟩, ⟨%d1, H1⟩, ⟨%d2, H2⟩, ⟨%d3, H3⟩⟩
    iapply (sound_kernel0B c Set.univ (grid0.coords t) _ _ _ _ _ _ _ _ (fun h => h0 ((hcond0_0 t).mp h)) ((hcond0_1 t).mpr h1) (iblk0 V c 0 t) (iblk0 V c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem defs₀_row0 (t : Fin cfg0.N) :
    defs₀ (F := F) .tc cfg0.body (cfg0.bodyArgs t (cfg0.slots t)) = bodyAt0 t := by
  unfold defs₀; rw [Defs.onTc_tc]

/-- The body's obligation to the pipeline. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.KernelIdeal.Own

end
-- ==== Proof.Value.K0.lean ====
module

public import proofs.«01_k».proof.Proof.Value.Math
public import proofs.«01_k».proof.Proof.Ideal.Region0
public import Idealize.ShloMosaic.Lib.Pointwise
public import Idealize.ShloMosaic.Lib.Pipeline.ValueKit

@[expose] public section

set_option maxRecDepth 16384

noncomputable section

/-! The teacher's pipeline: the tokens array and the token sum it leaves. -/

namespace Cert.KernelIdeal.Own

open Cert.KernelIdeal.Gen Cert.Spec
open Idealize.ShloMosaic Idealize.ShloMosaic.TcCoe
open Idealize.SL Idealize.SL.Sem

variable (V : (c : Dev nD) → (b : Ref sig .tc) → Buf (Elt Ideal) ((c : Thread nD τ).loc b))

/-- The token of patch column `k` and image `b` that one grid point's pixels and the weights give. -/
def ptTok (x : Arr 6 ![3, 1, 16, 14, 16, 128]) (w : Arr 2 ![768, 768]) (k : Fin 14) (b : Fin 128) (d : Fin 768) : EReal :=
  Ideal.tanh (∑ q : Fin 768, x (ix6 (⟨q.val / 256, by omega⟩ : Fin 3) (0 : Fin 1) (⟨q.val / 16 % 16, by omega⟩ : Fin 16) k (⟨q.val % 16, by omega⟩ : Fin 16) b) * w (ix2 q d))

/-- What a grid point writes of the tokens. -/
theorem out0_2_at (x : Vec Ideal S3x1x16x14x16x128 .f32) (w : Vec Ideal S768x768 .bf16) (y : S14x128x768.Idx) :
    out0_2 (F := Ideal) x w y = ptTok x w (y 0) (y 1) (y 2) := by
  unfold out0_2 ptTok
  canon_tiles x h
  all_goals (open_payloads; pointwise; refine congrArg Ideal.tanh (Finset.sum_congr rfl fun q _ => ?_); blk_point [])

/-- The fourteen columns a grid point adds, each as a token. -/
theorem columns_at (x : Vec Ideal S3x1x16x14x16x128 .f32) (w : Vec Ideal S768x768 .bf16) (b : Fin 128) (d : Fin 768) :
    k0_pay4 (F := Ideal) (View.ld x r0_0) (View.ld w r0_1) (ix2 b d) = ptTok x w 0 b d
      ∧ k0_pay6 (F := Ideal) (View.ld x r0_3) (View.ld w r0_1) (ix2 b d) = ptTok x w 1 b d
      ∧ k0_pay4 (F := Ideal) (View.ld x r0_5) (View.ld w r0_1) (ix2 b d) = ptTok x w 2 b d
      ∧ k0_pay4 (F := Ideal) (View.ld x r0_7) (View.ld w r0_1) (ix2 b d) = ptTok x w 3 b d
      ∧ k0_pay4 (F := Ideal) (View.ld x r0_9) (View.ld w r0_1) (ix2 b d) = ptTok x w 4 b d
      ∧ k0_pay4 (F := Ideal) (View.ld x r0_11) (View.ld w r0_1) (ix2 b d) = ptTok x w 5 b d
      ∧ k0_pay4 (F := Ideal) (View.ld x r0_13) (View.ld w r0_1) (ix2 b d) = ptTok x w 6 b d
      ∧ k0_pay4 (F := Ideal) (View.ld x r0_15) (View.ld w r0_1) (ix2 b d) = ptTok x w 7 b d
      ∧ k0_pay4 (F := Ideal) (View.ld x r0_17) (View.ld w r0_1) (ix2 b d) = ptTok x w 8 b d
      ∧ k0_pay4 (F := Ideal) (View.ld x r0_19) (View.ld w r0_1) (ix2 b d) = ptTok x w 9 b d
      ∧ k0_pay4 (F := Ideal) (View.ld x r0_21) (View.ld w r0_1) (ix2 b d) = ptTok x w 10 b d
      ∧ k0_pay4 (F := Ideal) (View.ld x r0_23) (View.ld w r0_1) (ix2 b d) = ptTok x w 11 b d
      ∧ k0_pay4 (F := Ideal) (View.ld x r0_25) (View.ld w r0_1) (ix2 b d) = ptTok x w 12 b d
      ∧ k0_pay4 (F := Ideal) (View.ld x r0_27) (View.ld w r0_1) (ix2 b d) = ptTok x w 13 b d := by
  refine ⟨?_, ?_, ?_, ?_, ?_, ?_, ?_, ?_, ?_, ?_, ?_, ?_, ?_, ?_⟩
  all_goals (unfold ptTok; unfold_payloads; pointwise; blk_ext)

/-- A grid point adds its fourteen columns. -/
theorem acc0_at (x : Vec Ideal S3x1x16x14x16x128 .f32) (w : Vec Ideal S768x768 .bf16) (b : Fin 128) (d : Fin 768) :
    acc0 (F := Ideal) x w (ix2 b d) = ∑ k, ptTok x w k b d := by
  obtain ⟨h0, h1, h2, h3, h4, h5, h6, h7, h8, h9, h10, h11, h12, h13⟩ := columns_at x w b d
  unfold acc0
  pointwise
  unfold zOf k0_pay8
  pointwise
  rw [h0, h1, h2, h3, h4, h5, h6, h7, h8, h9, h10, h11, h12, h13]
  simp only [Fin.sum_univ_castSucc, Fin.sum_univ_zero, zero_add]
  rfl

/-- Which block each window is at. -/
theorem idx0 : ∀ t : Fin cfg0.N, win0_0.index t = ![0, t.val, 0, 0, 0, 0] ∧ win0_1.index t = ![0, 0] ∧ win0_2.index t = ![t.val, 0, 0] ∧ win0_3.index t = ![0, 0] :=
  (by decide +kernel : ∀ t : Fin grid0.N, _)

/-- The token of patch `p` and image `b` from the transposed pixels and the weights. -/
@[irreducible] def tokK (x : Arr 6 ![3, 14, 16, 14, 16, 128]) (w : Arr 2 ![768, 768]) (p : Fin 196) (b : Fin 128) (d : Fin 768) : EReal :=
  Ideal.tanh (∑ q : Fin 768, x (ix6 (⟨q.val / 256, by omega⟩ : Fin 3) (⟨p.val / 14, by omega⟩ : Fin 14) (⟨q.val / 16 % 16, by omega⟩ : Fin 16) (⟨p.val % 14, by omega⟩ : Fin 14) (⟨q.val % 16, by omega⟩ : Fin 16) b) * w (ix2 q d))

/-- A grid point's token is the token of the patch in its row. -/
theorem ptTok_at (c : Dev nD) (t : Fin cfg0.N) (k : Fin 14) (b : Fin 128) (d : Fin 768) (p : Fin 196) (hp : p.val = t.val * 14 + k.val) :
    ptTok (iblk0 (F := Ideal) V c 0 t) (iblk0 (F := Ideal) V c 1 t) k b d = tokK (V c main_call0_v1) (V c main_call0_v7) p b d := by
  unfold ptTok tokK
  blk_point [iblk0, idx0 t]

/-- Equal indices give equal tokens. -/
theorem tokK_congr (x : Arr 6 ![3, 14, 16, 14, 16, 128]) (w : Arr 2 ![768, 768]) {p p' : Fin 196} {b b' : Fin 128} {d d' : Fin 768}
    (hp : p = p') (hb : b = b') (hd : d = d') : tokK x w p b d = tokK x w p' b' d' := by rw [hp, hb, hd]

/-- The tokens array after the pipeline. -/
theorem tokens_arr (c : Dev nD) : (dat0 (F := Ideal) V c).arrAt 2 cfg0.N
    = fun i : S196x128x768.Idx => tokK (V c main_call0_v1) (V c main_call0_v7) (i 0) (i 1) (i 2) := by
  refine (dat0 (F := Ideal) V c).arrAt_eq_of_covers 2 _ (by decide +kernel) fun t hf y => ?_
  blk_simp
  rw [after0_2]
  have ht : t.val < 14 := lt_of_lt_of_eq t.isLt N_0
  have h0 : (y 0 : ℕ) < 14 := (y 0).isLt
  refine (out0_2_at _ _ y).trans ((ptTok_at V c t _ _ _ (⟨t.val * 14 + (y 0 : ℕ), by omega⟩) rfl).trans ?_)
  have e0 : ((win0_2.blk t).view.emb y 0 : ℕ) = t.val * 14 + (y 0 : ℕ) := by blk_simp [idx0 t]
  have e1 : ((win0_2.blk t).view.emb y 1 : ℕ) = (y 1 : ℕ) := by blk_simp [idx0 t]
  have e2 : ((win0_2.blk t).view.emb y 2 : ℕ) = (y 2 : ℕ) := by blk_simp [idx0 t]
  exact tokK_congr _ _ (Fin.ext e0.symm) (Fin.ext e1.symm) (Fin.ext e2.symm)

/-- The offsets of a whole block of rank two. -/
theorem zero2 : (![0, 0] : Fin 2 → ℕ) = fun _ => 0 := by
  funext a
  match a with
  | ⟨0, _⟩ => rfl
  | ⟨1, _⟩ => rfl

/-- What a grid point leaves in the sum's block, at the first point and at a later one. -/
theorem step0 (x : Vec Ideal S3x1x16x14x16x128 .f32) (w : Vec Ideal S768x768 .bf16) (xo : Vec Ideal S128x768 .f32) (j : S128x768.Idx) :
    out0_3A (F := Ideal) x w j = ∑ k, ptTok x w k (j 0) (j 1) ∧ out0_3B (F := Ideal) x w xo j = xo j + ∑ k, ptTok x w k (j 0) (j 1) := by
  unfold out0_3A out0_3B
  idx_vars j
  constructor
  · rw [View.canon_unit_zero zero2]
    exact acc0_at _ _ _ _
  · rw [View.canon_unit_zero zero2]
    pointwise
    rw [acc0_at]

/-- The token sum after the pipeline: over all patches. -/
theorem sum_arr (c : Dev nD) : (dat0 (F := Ideal) V c).arrAt 3 cfg0.N
    = fun i : S128x768.Idx => ∑ p, tokK (V c main_call0_v1) (V c main_call0_v7) p (i 0) (i 1) := by
  refine (dat0 (F := Ideal) V c).arrAt_eq_of_after_last 3 t0_13 (by decide +kernel) _ fun j => ?_
  blk_simp
  rw [after0_3, Pipeline.eq_sum_fin_of_reset_step_apply_last (fun n h => sumAt0 V c n h) 14 (fun _ => 0) (fun t j => ∑ k, ptTok (iblk0 (F := Ideal) V c 0 t) (iblk0 (F := Ideal) V c 1 t) k (j 0) (j 1))
    (fun t h j => by rw [sumAt0_A V c t (by have := lt_of_lt_of_eq t.isLt N_0; omega)]; rw [(step0 _ _ (fun _ => 0) j).1, zero_add])
    (fun t h j => by rw [sumAt0_B V c t (by omega)]; exact (step0 _ _ _ j).2)
    (le_of_eq N_0) t0_13 rfl j, zero_add]
  refine Fin.sum_mul_add_congr fun s k hl => ?_
  exact ptTok_at V c s k _ _ _ rfl

end Cert.KernelIdeal.Own
-- ==== Proof.Ideal.Regions12.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.TableIdle
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! The token-distillation pipeline and the losses' kernel (the second and third `pallas_call`s), from any
contents `V` of the device's buffers at their entries. -/

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block that window `w` of the distillation call reads at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S16x49 := Rect.unit (s := S16x49) ![0, 0] S16x49.size inb_S16x49_S16x49_0_0
abbrev r1_1 : Rect S16x49x768 := Rect.unit (s := S16x49x768) ![0, 0, 0] S16x49x768.size inb_S16x49x768_S16x49x768_0_0_0

/-- The masked divergences that one grid point writes. -/
def out1_3 (x0 : Vec F S16x49x768 .bf16) (x1 : Vec F S16x49x768 .f32) (x2 : Vec F S16x49 .f32) : Vec F S16x49 .f32 :=
  View.canon [⟨r1_0, k1_pay2 (View.ld x2 r1_0) (View.ld x0 r1_1) (View.ld x1 r1_1)⟩]

theorem cover1_3 (p0 : Vec F S16x49 .f32) (y : S16x49.Idx) :
    ∃ pc ∈ ([⟨r1_0, p0⟩] : List (View.Piece (Elt F) S16x49 .f32)), y ∈ pc.1.set :=
  View.cover_of_tiled [⟨r1_0, p0⟩] S16x49.size (by rfl) y

/-- The mask that one grid point writes. -/
def out1_4 (x0 : Vec F S16x49x768 .bf16) (x1 : Vec F S16x49x768 .f32) (x2 : Vec F S16x49 .f32) : Vec F S16x49 .f32 :=
  View.canon [⟨r1_0, k1_pay1 (View.ld x2 r1_0)⟩]

theorem cover1_4 (p0 : Vec F S16x49 .f32) (y : S16x49.Idx) :
    ∃ pc ∈ ([⟨r1_0, p0⟩] : List (View.Piece (Elt F) S16x49 .f32)), y ∈ pc.1.set :=
  View.cover_of_tiled [⟨r1_0, p0⟩] S16x49.size (by rfl) y

set_option maxHeartbeats 1000000 in
theorem sound_kernel1 (c : Dev nD) (E : Set ℕ) (i : grid1.Coords) (arg1 : Memref sig .tc .vmem S16x49x768 .bf16) (harg1 : arg1.IsWhole) (arg2 : Memref sig .tc .vmem S16x49x768 .f32) (harg2 : arg2.IsWhole) (arg3 : Memref sig .tc .vmem S16x49 .f32) (harg3 : arg3.IsWhole) (arg4 : Memref sig .tc .vmem S16x49 .f32) (harg4 : arg4.IsWhole) (arg5 : Memref sig .tc .vmem S16x49 .f32) (harg5 : arg5.IsWhole)
    (x0 : Vec F S16x49x768 .bf16) (x1 : Vec F S16x49x768 .f32) (x2 : Vec F S16x49 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__distill_kernel i arg1 harg1 arg2 harg2 arg3 harg3 arg4 harg4 arg5 harg5) K := by
  simp only [cc1__distill_kernel_eq_skeleton]; unfold cc1__distill_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The distillation pipeline's contents, at entry and after each grid point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body owns before grid point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body owns after grid point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body takes one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

/-- The body's obligation to the pipeline. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The array that window `w` of the losses call reads. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S128x768 := Rect.unit (s := S128x768) ![0, 0] S128x768.size inb_S128x768_S128x768_0_0
abbrev r2_1 : Rect S1000x768 := Rect.unit (s := S1000x768) ![0, 0] S1000x768.size inb_S1000x768_S1000x768_0_0
abbrev r2_2 : Rect S1000x128 := Rect.unit (s := S1000x128) ![0, 0] S1000x128.size inb_S1000x128_S1000x128_0_0
abbrev r2_3 : Rect S1x128 := Rect.unit (s := S1x128) ![0, 0] S1x128.size inb_S1x128_S1x128_0_0
abbrev r2_4 : Rect S196x128 := Rect.unit (s := S196x128) ![0, 0] S196x128.size inb_S196x128_S196x128_0_0
abbrev r2_5 : Rect S128x49 := Rect.unit (s := S128x49) ![0, 0] S128x49.size inb_S128x49_S128x49_0_0
abbrev r2_6 : Rect S1x1 := Rect.unit (s := S1x1) ![0, 0] S1x1.size inb_S1x1_S1x1_0_0

def k2_pay16 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : FVec F S1000x128 .f32 :=
  k2_pay4 (View.ld x2 r2_2)
def k2_pay17 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : IVec S1000x128 1 :=
  k2_pay6 (View.ld x3 r2_3)
def k2_pay18 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : FVec F S196x128 .f32 :=
  k2_pay9 (View.ld x8 r2_4)

/-- The whole loss. -/
def out2_9 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : Vec F S1x1 .f32 :=
  View.canon [⟨r2_6, k2_pay14 (k2_pay5 (View.ld x0 r2_0) (View.ld x1 r2_1) (View.ld x2 r2_2)) (k2_pay7 (k2_pay16 x0 x1 x2 x3 x4 x5 x6 x7 x8) (k2_pay17 x0 x1 x2 x3 x4 x5 x6 x7 x8)) (k2_pay8 (View.ld x6 r2_4) (View.ld x7 r2_4)) (k2_pay18 x0 x1 x2 x3 x4 x5 x6 x7 x8) (View.ld x5 r2_5) (View.ld x4 r2_5)⟩]

theorem cover2_9 (p0 : Vec F S1x1 .f32) (y : S1x1.Idx) :
    ∃ pc ∈ ([⟨r2_6, p0⟩] : List (View.Piece (Elt F) S1x1 .f32)), y ∈ pc.1.set :=
  View.cover_of_tiled [⟨r2_6, p0⟩] S1x1.size (by rfl) y

/-- The class term. -/
def out2_10 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : Vec F S1x1 .f32 :=
  View.canon [⟨r2_6, k2_pay15 (k2_pay7 (k2_pay16 x0 x1 x2 x3 x4 x5 x6 x7 x8) (k2_pay17 x0 x1 x2 x3 x4 x5 x6 x7 x8))⟩]

theorem cover2_10 (p0 : Vec F S1x1 .f32) (y : S1x1.Idx) :
    ∃ pc ∈ ([⟨r2_6, p0⟩] : List (View.Piece (Elt F) S1x1 .f32)), y ∈ pc.1.set :=
  View.cover_of_tiled [⟨r2_6, p0⟩] S1x1.size (by rfl) y

/-- The ratio term. -/
def out2_11 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : Vec F S1x1 .f32 :=
  View.canon [⟨r2_6, k2_pay1 (k2_pay11 (k2_pay8 (View.ld x6 r2_4) (View.ld x7 r2_4)) (k2_pay18 x0 x1 x2 x3 x4 x5 x6 x7 x8))⟩]

theorem cover2_11 (p0 : Vec F S1x1 .f32) (y : S1x1.Idx) :
    ∃ pc ∈ ([⟨r2_6, p0⟩] : List (View.Piece (Elt F) S1x1 .f32)), y ∈ pc.1.set :=
  View.cover_of_tiled [⟨r2_6, p0⟩] S1x1.size (by rfl) y

/-- The divergence term. -/
def out2_12 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : Vec F S1x1 .f32 :=
  View.canon [⟨r2_6, k2_pay2 (k2_pay12 (k2_pay5 (View.ld x0 r2_0) (View.ld x1 r2_1) (View.ld x2 r2_2)))⟩]

theorem cover2_12 (p0 : Vec F S1x1 .f32) (y : S1x1.Idx) :
    ∃ pc ∈ ([⟨r2_6, p0⟩] : List (View.Piece (Elt F) S1x1 .f32)), y ∈ pc.1.set :=
  View.cover_of_tiled [⟨r2_6, p0⟩] S1x1.size (by rfl) y

/-- The distillation term. -/
def out2_13 (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) : Vec F S1x1 .f32 :=
  View.canon [⟨r2_6, k2_pay3 (k2_pay13 (View.ld x5 r2_5) (View.ld x4 r2_5))⟩]

theorem cover2_13 (p0 : Vec F S1x1 .f32) (y : S1x1.Idx) :
    ∃ pc ∈ ([⟨r2_6, p0⟩] : List (View.Piece (Elt F) S1x1 .f32)), y ∈ pc.1.set :=
  View.cover_of_tiled [⟨r2_6, p0⟩] S1x1.size (by rfl) y

set_option maxHeartbeats 1000000 in
theorem sound_kernel2 (c : Dev nD) (E : Set ℕ) (arg0 : Memref sig .tc .vmem S128x768 .f32) (harg0 : arg0.IsWhole) (arg1 : Memref sig .tc .vmem S1000x768 .f32) (harg1 : arg1.IsWhole) (arg2 : Memref sig .tc .vmem S1000x128 .f32) (harg2 : arg2.IsWhole) (arg3 : Memref sig .tc .vmem S1x128 .i32) (harg3 : arg3.IsWhole) (arg4 : Memref sig .tc .vmem S128x49 .f32) (harg4 : arg4.IsWhole) (arg5 : Memref sig .tc .vmem S128x49 .f32) (harg5 : arg5.IsWhole) (arg6 : Memref sig .tc .vmem S196x128 .f32) (harg6 : arg6.IsWhole) (arg7 : Memref sig .tc .vmem S196x128 .f32) (harg7 : arg7.IsWhole) (arg8 : Memref sig .tc .vmem S196x128 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole)
    (x0 : Vec F S128x768 .f32) (x1 : Vec F S1000x768 .f32) (x2 : Vec F S1000x128 .f32) (x3 : Vec F S1x128 .i32) (x4 : Vec F S128x49 .f32) (x5 : Vec F S128x49 .f32) (x6 : Vec F S196x128 .f32) (x7 : Vec F S196x128 .f32) (x8 : Vec F S196x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8) ∗ owns (c : Thread nD τ) arg10 fullShare (out2_10 x0 x1 x2 x3 x4 x5 x6 x7 x8) ∗ owns (c : Thread nD τ) arg11 fullShare (out2_11 x0 x1 x2 x3 x4 x5 x6 x7 x8) ∗ owns (c : Thread nD τ) arg12 fullShare (out2_12 x0 x1 x2 x3 x4 x5 x6 x7 x8) ∗ owns (c : Thread nD τ) arg13 fullShare (out2_13 x0 x1 x2 x3 x4 x5 x6 x7 x8)) -∗ K ⟨⟩))
      ⊢ wp frame (wpE (defs₀ (F := F)) Variants.none c none) E (cc2__losses_kernel arg0 harg0 arg1 harg1 arg2 harg2 arg3 harg3 arg4 harg4 arg5 harg5 arg6 harg6 arg7 harg7 arg8 harg8 arg9 harg9 arg10 harg10 arg11 harg11 arg12 harg12 arg13 harg13) K := by
  simp only [cc2__losses_kernel_eq_skeleton]; unfold cc2__losses_kernel_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover2_9 _)).trans ?_
    rfl
  isplitl [H10]
  · iexists _; isplitr
    swap; · iexact H10
    ipureintro
    refine (View.read_writes_eq_canon _ _ _ (cover2_10 _)).trans ?_
    rfl
  isplitl [H11]
  · iexists _; isplitr
    swap; · iexact H11
    ipureintro
    refine (View.read_writes_eq_canon _ _ _ (cover2_11 _)).trans ?_
    rfl
  isplitl [H12]
  · iexists _; isplitr
    swap; · iexact H12
    ipureintro
    refine (View.read_writes_eq_canon _ _ _ (cover2_12 _)).trans ?_
    rfl
  iexists _; isplitr
  swap; · iexact H13
  ipureintro
  refine (View.read_writes_eq_canon _ _ _ (cover2_13 _)).trans ?_
  rfl

/-- The losses pipeline's contents, at entry and at the end. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body owns at its start. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- What the body owns at its end. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

/-- The body takes one to the other. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row2 (t : Fin cfg2.N) :
    defs₀ (F := F) .tc cfg2.body (cfg2.bodyArgs t (cfg2.slots t)) = bodyAt2 t := by
  unfold defs₀; rw [Defs.onTc_tc]

/-- The body's obligation to the pipeline. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.Value.K1.lean ====
module

public import proofs.«01_k».proof.Proof.Value.Math
public import proofs.«01_k».proof.Proof.Ideal.Regions12
public import Idealize.ShloMosaic.Lib.Pointwise
public import Idealize.ShloMosaic.Lib.Pipeline.ValueKit

@[expose] public section

set_option maxRecDepth 16384

noncomputable section

/-! The distillation's pipeline: each token's divergence and its mask. -/

namespace Cert.KernelIdeal.Own

open Cert.KernelIdeal.Gen Cert.Spec
open Idealize.ShloMosaic Idealize.ShloMosaic.TcCoe
open Idealize.SL Idealize.SL.Sem

variable (V : (c : Dev nD) → (b : Ref sig .tc) → Buf (Elt Ideal) ((c : Thread nD τ).loc b))

/-- Whether a token is kept. -/
def selB {B : ℕ} (M : Arr 2 ![B, 49]) (b : Fin B) (l : Fin 49) : EReal := if Ideal.ofBits .f32 1056964608#32 < M (ix2 b l) then 1 else 0

/-- A kept token's divergence as the kernel adds it up. -/
def klB {B : ℕ} (M : Arr 2 ![B, 49]) (S O : Arr 3 ![B, 49, 768]) (b : Fin B) (l : Fin 49) : EReal :=
  ((∑ k, Ideal.div (Ideal.exp (row3 S b l k - top (row3 S b l))) (sexp (row3 S b l)) * (row3 S b l k - row3 O b l k)) - lse (row3 S b l) + lse (row3 O b l)) * selB M b l

/-- A truth value read as a float. -/
theorem bit_at {p : Prop} [Decidable p] : (FloatOps.sitofp (F := Ideal) .f32 (BitVec.setWidth 32 (BitVec.ofBool (decide p))) : EReal) = if p then 1 else 0 := by
  by_cases h : p <;> simp [h, FloatOps.sitofp]

/-- The mask that a grid point computes. -/
theorem mask_at (M : Vec Ideal S16x49 .f32) (b : Fin 16) (l : Fin 49) : k1_pay1 (F := Ideal) M (ix2 b l) = selB M b l := by
  unfold_payloads
  pointwise
  exact bit_at

/-- The masked divergence that a grid point computes. -/
theorem div_at (M : Vec Ideal S16x49 .f32) (S : Vec Ideal S16x49x768 .bf16) (O : Vec Ideal S16x49x768 .f32) (b : Fin 16) (l : Fin 49) :
    k1_pay2 (F := Ideal) M S O (ix2 b l) = klB M S O b l := by
  unfold_payloads
  pointwise
  rw [bit_at]
  rfl

/-- Which block each window is at. -/
theorem idx1 : ∀ t : Fin cfg1.N, win1_0.index t = ![t.val, 0, 0] ∧ win1_1.index t = ![t.val, 0, 0] ∧ win1_2.index t = ![t.val, 0]
    ∧ win1_3.index t = ![t.val, 0] ∧ win1_4.index t = ![t.val, 0] :=
  (by decide +kernel : ∀ t : Fin grid1.N, _)

/-- The offsets of a whole block of rank two. -/
theorem z2 : (![0, 0] : Fin 2 → ℕ) = fun _ => 0 := by
  funext a
  match a with
  | ⟨0, _⟩ => rfl
  | ⟨1, _⟩ => rfl
/-- The offsets of a whole block of rank three. -/
theorem z3 : (![0, 0, 0] : Fin 3 → ℕ) = fun _ => 0 := by
  funext a
  match a with
  | ⟨0, _⟩ => rfl
  | ⟨1, _⟩ => rfl
  | ⟨2, _⟩ => rfl

/-- What a grid point writes of its two outputs. -/
theorem out1_at (S : Vec Ideal S16x49x768 .bf16) (O : Vec Ideal S16x49x768 .f32) (M : Vec Ideal S16x49 .f32) (y : S16x49.Idx) :
    out1_3 (F := Ideal) S O M y = klB M S O (y 0) (y 1) ∧ out1_4 (F := Ideal) S O M y = selB M (y 0) (y 1) := by
  unfold out1_3 out1_4
  idx_vars y
  rw [View.canon_unit_zero z2, View.canon_unit_zero z2, View.ld_unit_zero z2, View.ld_unit_zero z3, View.ld_unit_zero z3]
  exact ⟨div_at _ _ _ _ _, mask_at _ _ _⟩

/-- A grid point's mask is the mask of its images. -/
theorem selB_at (c : Dev nD) (t : Fin cfg1.N) (b : Fin 16) (l : Fin 49) (b' : Fin 128) (hb : b'.val = t.val * 16 + b.val) :
    selB (iblk1 (F := Ideal) V c 2 t) b l = selB (V c main_arg3) b' l := by
  unfold selB
  have e : iblk1 (F := Ideal) V c 2 t (ix2 b l) = V c main_arg3 (ix2 b' l) := by blk_point [iblk1, idx1 t]
  exact congrArg (fun x => if Ideal.ofBits .f32 1056964608#32 < x then (1 : EReal) else 0) e

/-- A grid point's divergence is that of its images. -/
theorem klB_at (c : Dev nD) (t : Fin cfg1.N) (b : Fin 16) (l : Fin 49) (b' : Fin 128) (hb : b'.val = t.val * 16 + b.val) :
    klB (iblk1 (F := Ideal) V c 2 t) (iblk1 (F := Ideal) V c 0 t) (iblk1 (F := Ideal) V c 1 t) b l = klB (V c main_arg3) (V c main_call0_v16) (V c main_arg2) b' l := by
  have e0 : row3 (B := 16) (iblk1 (F := Ideal) V c 0 t) b l = row3 (B := 128) (V c main_call0_v16) b' l := by
    funext n
    unfold row3
    blk_point [iblk1, idx1 t]
  have e1 : row3 (B := 16) (iblk1 (F := Ideal) V c 1 t) b l = row3 (B := 128) (V c main_arg2) b' l := by
    funext n
    unfold row3
    blk_point [iblk1, idx1 t]
  unfold klB
  rw [e0, e1, selB_at V c t b l b' hb]

/-- Equal indices give equal masks. -/
theorem selB_congr (M : Arr 2 ![128, 49]) {b b' : Fin 128} {l l' : Fin 49} (hb : b = b') (hl : l = l') : selB M b l = selB M b' l' := by rw [hb, hl]
/-- Equal indices give equal divergences. -/
theorem klB_congr (M : Arr 2 ![128, 49]) (S O : Arr 3 ![128, 49, 768]) {b b' : Fin 128} {l l' : Fin 49} (hb : b = b') (hl : l = l') :
    klB M S O b l = klB M S O b' l' := by rw [hb, hl]

/-- The masked divergences after the pipeline. -/
theorem kl_arr (c : Dev nD) : (dat1 (F := Ideal) V c).arrAt 3 cfg1.N
    = fun i : S128x49.Idx => klB (V c main_arg3) (V c main_call0_v16) (V c main_arg2) (i 0) (i 1) := by
  refine (dat1 (F := Ideal) V c).arrAt_eq_of_covers 3 _ (by decide +kernel) fun t hf y => ?_
  blk_simp
  rw [after1_3]
  have ht : t.val < 8 := lt_of_lt_of_eq t.isLt N_1
  have h0 : (y 0 : ℕ) < 16 := (y 0).isLt
  refine (out1_at _ _ _ y).1.trans ((klB_at V c t _ _ (⟨t.val * 16 + (y 0 : ℕ), by omega⟩) rfl).trans ?_)
  have e0 : ((win1_3.blk t).view.emb y 0 : ℕ) = t.val * 16 + (y 0 : ℕ) := by blk_simp [idx1 t]
  have e1 : ((win1_3.blk t).view.emb y 1 : ℕ) = (y 1 : ℕ) := by blk_simp [idx1 t]
  exact klB_congr _ _ _ (Fin.ext e0.symm) (Fin.ext e1.symm)

/-- The mask after the pipeline. -/
theorem sel_arr (c : Dev nD) : (dat1 (F := Ideal) V c).arrAt 4 cfg1.N
    = fun i : S128x49.Idx => selB (V c main_arg3) (i 0) (i 1) := by
  refine (dat1 (F := Ideal) V c).arrAt_eq_of_covers 4 _ (by decide +kernel) fun t hf y => ?_
  blk_simp
  rw [after1_4]
  have ht : t.val < 8 := lt_of_lt_of_eq t.isLt N_1
  have h0 : (y 0 : ℕ) < 16 := (y 0).isLt
  refine (out1_at _ _ _ y).2.trans ((selB_at V c t _ _ (⟨t.val * 16 + (y 0 : ℕ), by omega⟩) rfl).trans ?_)
  have e0 : ((win1_4.blk t).view.emb y 0 : ℕ) = t.val * 16 + (y 0 : ℕ) := by blk_simp [idx1 t]
  have e1 : ((win1_4.blk t).view.emb y 1 : ℕ) = (y 1 : ℕ) := by blk_simp [idx1 t]
  exact selB_congr _ (Fin.ext e0.symm) (Fin.ext e1.symm)

end Cert.KernelIdeal.Own
-- ==== Proof.Value.K2.lean ====
module

public import proofs.«01_k».proof.Proof.Value.Math
public import proofs.«01_k».proof.Proof.Value.K1
public import Idealize.ShloMosaic.Lib.Pointwise
public import Idealize.ShloMosaic.Lib.Pipeline.ValueKit

@[expose] public section

set_option maxRecDepth 16384

noncomputable section

/-! The loss pipeline: the five scalars of its one point. -/

namespace Cert.KernelIdeal.Own

open Cert.KernelIdeal.Gen Cert.Spec
open Idealize.ShloMosaic Idealize.ShloMosaic.TcCoe
open Idealize.SL Idealize.SL.Sem

variable (V : (c : Dev nD) → (b : Ref sig .tc) → Buf (Elt Ideal) ((c : Thread nD τ).loc b))

/-- The teacher's logits, transposed, as the kernel forms them. -/
def logitK (Z : Arr 2 ![128, 768]) (C : Arr 2 ![1000, 768]) (b : Fin 128) (n : Fin 1000) : EReal :=
  ∑ d : Fin 768, C (ix2 n d) * (Z (ix2 b d) * (Named.named κ "inv_nt" (1000812293#32) : Ideal .f32))

/-- The student's logits of image `b`, from the transposed array. -/
def colT (T : Arr 2 ![1000, 128]) (b : Fin 128) : Fin 1000 → EReal := fun n => T (ix2 n b)

/-- The student's log-softmax, by columns. -/
theorem pay4K (T : Vec Ideal S1000x128 .f32) (n : Fin 1000) (b : Fin 128) :
    k2_pay4 (F := Ideal) T (ix2 n b) = colT T b n - lse (colT T b) := by
  unfold k2_pay4
  pointwise
  rfl

/-- The divergence of the teacher's classes, as the kernel adds it up. -/
def klK (Z : Arr 2 ![128, 768]) (C : Arr 2 ![1000, 768]) (T : Arr 2 ![1000, 128]) : EReal :=
  Ideal.div (∑ n, ∑ b, Ideal.exp (logitK Z C b n - lse (logitK Z C b)) * (logitK Z C b n - lse (logitK Z C b) - (colT T b n - lse (colT T b))))
    (Ideal.ofBits .f32 1124073472#32)

/-- The class divergence. -/
theorem pay5K (Z : Vec Ideal S128x768 .f32) (C : Vec Ideal S1000x768 .f32) (T : Vec Ideal S1000x128 .f32) :
    k2_pay5 (F := Ideal) Z C T = klK Z C T := by
  unfold k2_pay5
  pointwise [pay4K]
  simp only [klK, logitK, lse, sexp, top]

/-- The cross entropy, as the kernel adds it up. -/
def ceK (T : Arr 2 ![1000, 128]) (L : Wrd 2 ![1, 128]) : EReal :=
  Ideal.div (0 - ∑ n : Fin 1000, ∑ b, (colT T b n - lse (colT T b)) * (if L (ix2 (0 : Fin 1) b) = BitVec.ofNat 32 n.val then 1 else 0)) (Ideal.ofBits .f32 1124073472#32)

/-- A comparison of words read as a float. -/
theorem hot_at (v w : BitVec 32) : (FloatOps.sitofp (F := Ideal) .f32 (BitVec.setWidth 32 (IntOp.cmpi .eq v w)) : EReal) = if v = w then 1 else 0 := by
  have e : IntOp.cmpi .eq v w = BitVec.ofBool (decide (v = w)) := by simp [IntOp.cmpi, BEq.beq]
  rw [e]
  exact bit_at

/-- The cross entropy. -/
theorem pay7K (T : Vec Ideal S1000x128 .f32) (L : Vec Ideal S1x128 .i32) :
    k2_pay7 (F := Ideal) (k2_pay4 T) (k2_pay6 L) = ceK T L := by
  unfold k2_pay7 k2_pay6
  pointwise [pay4K, hot_at]
  rfl

/-- The ratio loss, from the transposed decisions. -/
def ratioK (D₀ D₁ D₂ : Arr 2 ![196, 128]) : EReal :=
  ratio (fun i => D₀ (ix2 (i 1) (i 0))) (fun i => D₁ (ix2 (i 1) (i 0))) (fun i => D₂ (ix2 (i 1) (i 0)))

/-- The ratio loss. -/
theorem pay11K (x y z : Vec Ideal S196x128 .f32) : k2_pay11 (F := Ideal) (k2_pay8 x y) (k2_pay9 z) = ratioK x y z := by
  unfold_payloads
  pointwise
  rfl

/-- The distillation loss, from the summands and the masks. -/
def distK (S K : Arr 2 ![128, 49]) : EReal :=
  if ∑ b, ∑ l, S (ix2 b l) < Ideal.ofBits .f32 1036831949#32 then 0 else Ideal.div (∑ b, ∑ l, K (ix2 b l)) (max (∑ b, ∑ l, S (ix2 b l)) 1)

/-- Half the distillation loss. -/
theorem pay13K (S K : Vec Ideal S128x49 .f32) : k2_pay13 (F := Ideal) S K = Ideal.ofBits .f32 1056964608#32 * distK S K := by
  unfold k2_pay13
  pointwise
  rfl

/-- The sum of the four terms. -/
theorem pay14K (a r : Ideal .f32) (x y : Vec Ideal S196x128 .f32) (z : Vec Ideal S196x128 .f32) (S K : Vec Ideal S128x49 .f32) (j : S1x1.Idx) :
    k2_pay14 (F := Ideal) a r (k2_pay8 x y) (k2_pay9 z) S K j
      = r + ratioK x y z + Ideal.ofBits .f32 1056964608#32 * a + Ideal.ofBits .f32 1056964608#32 * distK S K := by
  unfold k2_pay14 k2_pay10 k2_pay12
  pointwise [pay11K, pay13K]

/-- The broadcasts of the scalars to the one-entry outputs. -/
theorem pays (a : Ideal .f32) (j : S1x1.Idx) : k2_pay15 (F := Ideal) a j = a ∧ k2_pay1 (F := Ideal) a j = a ∧ k2_pay2 (F := Ideal) (k2_pay12 a) j = Ideal.ofBits .f32 1056964608#32 * a ∧ k2_pay3 (F := Ideal) a j = a := by
  refine ⟨?_, ?_, ?_, ?_⟩
  all_goals (unfold_payloads; pointwise)

/-- Every window is at its only block. -/
theorem idx2 : ∀ t : Fin cfg2.N, win2_0.index t = ![0, 0] ∧ win2_1.index t = ![0, 0] ∧ win2_2.index t = ![0, 0] ∧ win2_3.index t = ![0, 0] ∧ win2_4.index t = ![0, 0]
    ∧ win2_5.index t = ![0, 0] ∧ win2_6.index t = ![0, 0] ∧ win2_7.index t = ![0, 0] ∧ win2_8.index t = ![0, 0] :=
  (by decide +kernel : ∀ t : Fin grid2.N, _)

/-- The blocks that the call reads are the whole arrays. -/
theorem whole2 (c : Dev nD) (t : Fin cfg2.N) : iblk2 (F := Ideal) V c 0 t = V c main_call0_v8_1 ∧ iblk2 (F := Ideal) V c 1 t = V c main_call0_v2
    ∧ iblk2 (F := Ideal) V c 2 t = V c main_call0_v3 ∧ iblk2 (F := Ideal) V c 3 t = V c main_call0_v18 ∧ iblk2 (F := Ideal) V c 4 t = V c main_call0_v17_0
    ∧ iblk2 (F := Ideal) V c 5 t = V c main_call0_v17_1 ∧ iblk2 (F := Ideal) V c 6 t = V c main_call0_v4 ∧ iblk2 (F := Ideal) V c 7 t = V c main_call0_v5
    ∧ iblk2 (F := Ideal) V c 8 t = V c main_call0_v6 := by
  refine ⟨?_, ?_, ?_, ?_, ?_, ?_, ?_, ?_, ?_⟩
  all_goals (funext j; idx_vars j; blk_point [iblk2, idx2 t])

theorem ld2_0 (x : Vec Ideal S128x768 .f32) : View.ld x r2_0 = x := View.ld_unit_zero (S := S128x768) z2 _ x
theorem ld2_1 (x : Vec Ideal S1000x768 .f32) : View.ld x r2_1 = x := View.ld_unit_zero (S := S1000x768) z2 _ x
theorem ld2_2 (x : Vec Ideal S1000x128 .f32) : View.ld x r2_2 = x := View.ld_unit_zero (S := S1000x128) z2 _ x
theorem ld2_3 (x : Vec Ideal S1x128 .i32) : View.ld x r2_3 = x := View.ld_unit_zero (S := S1x128) z2 _ x
theorem ld2_4 (x : Vec Ideal S196x128 .f32) : View.ld x r2_4 = x := View.ld_unit_zero (S := S196x128) z2 _ x
theorem ld2_5 (x : Vec Ideal S128x49 .f32) : View.ld x r2_5 = x := View.ld_unit_zero (S := S128x49) z2 _ x

/-- The five scalars of the loss from the pipeline's arrays. -/
theorem loss_arr (c : Dev nD) :
    ((dat2 (F := Ideal) V c).arrAt 9 cfg2.N = fun _ => ceK (V c main_call0_v3) (V c main_call0_v18) + ratioK (V c main_call0_v4) (V c main_call0_v5) (V c main_call0_v6)
        + Ideal.ofBits .f32 1056964608#32 * klK (V c main_call0_v8_1) (V c main_call0_v2) (V c main_call0_v3)
        + Ideal.ofBits .f32 1056964608#32 * distK (V c main_call0_v17_1) (V c main_call0_v17_0))
    ∧ ((dat2 (F := Ideal) V c).arrAt 10 cfg2.N = fun _ => ceK (V c main_call0_v3) (V c main_call0_v18))
    ∧ ((dat2 (F := Ideal) V c).arrAt 11 cfg2.N = fun _ => ratioK (V c main_call0_v4) (V c main_call0_v5) (V c main_call0_v6))
    ∧ ((dat2 (F := Ideal) V c).arrAt 12 cfg2.N = fun _ => Ideal.ofBits .f32 1056964608#32 * klK (V c main_call0_v8_1) (V c main_call0_v2) (V c main_call0_v3))
    ∧ ((dat2 (F := Ideal) V c).arrAt 13 cfg2.N = fun _ => Ideal.ofBits .f32 1056964608#32 * distK (V c main_call0_v17_1) (V c main_call0_v17_0)) := by
  obtain ⟨w0, w1, w2, w3, w4, w5, w6, w7, w8⟩ := whole2 V c t2_0
  refine ⟨?_, ?_, ?_, ?_, ?_⟩
  · refine (dat2 (F := Ideal) V c).arrAt_eq_of_after_last 9 t2_0 (by decide +kernel) _ fun j => ?_
    blk_simp
    rw [after2_9, w0, w1, w2, w3, w4, w5, w6, w7, w8]
    unfold out2_9
    rw [View.canon_unit_zero z2]
    simp only [ld2_0, ld2_1, ld2_2, ld2_3, ld2_4, ld2_5, k2_pay16, k2_pay17, k2_pay18, pay5K, pay7K, pay14K]
  · refine (dat2 (F := Ideal) V c).arrAt_eq_of_after_last 10 t2_0 (by decide +kernel) _ fun j => ?_
    blk_simp
    rw [after2_10, w0, w1, w2, w3, w4, w5, w6, w7, w8]
    unfold out2_10
    rw [View.canon_unit_zero z2]
    simp only [ld2_0, ld2_1, ld2_2, ld2_3, ld2_4, ld2_5, k2_pay16, k2_pay17, k2_pay18, pay5K, pay7K, pays]
  · refine (dat2 (F := Ideal) V c).arrAt_eq_of_after_last 11 t2_0 (by decide +kernel) _ fun j => ?_
    blk_simp
    rw [after2_11, w0, w1, w2, w3, w4, w5, w6, w7, w8]
    unfold out2_11
    rw [View.canon_unit_zero z2]
    simp only [ld2_0, ld2_1, ld2_2, ld2_3, ld2_4, ld2_5, k2_pay16, k2_pay17, k2_pay18, pay11K, pays]
  · refine (dat2 (F := Ideal) V c).arrAt_eq_of_after_last 12 t2_0 (by decide +kernel) _ fun j => ?_
    blk_simp
    rw [after2_12, w0, w1, w2, w3, w4, w5, w6, w7, w8]
    unfold out2_12
    rw [View.canon_unit_zero z2]
    simp only [ld2_0, ld2_1, ld2_2, ld2_3, ld2_4, ld2_5, k2_pay16, k2_pay17, k2_pay18, pay5K, pays]
  · refine (dat2 (F := Ideal) V c).arrAt_eq_of_after_last 13 t2_0 (by decide +kernel) _ fun j => ?_
    blk_simp
    rw [after2_13, w0, w1, w2, w3, w4, w5, w6, w7, w8]
    unfold out2_13
    rw [View.canon_unit_zero z2]
    simp only [ld2_0, ld2_1, ld2_2, ld2_3, ld2_4, ld2_5, pay13K, pays]

end Cert.KernelIdeal.Own
-- ==== Proof.Value.Bring.lean ====
module

public import proofs.«01_k».proof.Proof.Value.Math
public import proofs.«01_k».proof.Proof.Value.K0
public import proofs.«01_k».proof.Proof.Value.K2
public import Idealize.ShloMosaic.Lib.Pointwise

@[expose] public section

set_option maxRecDepth 16384

noncomputable section

/-! The pipelines' values are the losses of the specification, for finite logits and tokens. -/

namespace Cert.KernelIdeal.Own

open Cert.Spec
open Idealize.ShloMosaic

variable {X : Arr 4 ![128, 3, 224, 224]} {W : Arr 2 ![768, 768]} {C : Arr 2 ![768, 1000]} {T : Arr 2 ![128, 1000]} {O : Arr 3 ![128, 49, 768]}
  {P : Wrd 2 ![128, 49]} {M : Arr 2 ![128, 49]} {L : Wrd 1 ![128]}

/-- The token that the pipeline computes from the transposed pixels is the specification's. -/
theorem tokK_eq (x : Arr 6 ![3, 14, 16, 14, 16, 128]) (w : Arr 2 ![768, 768])
    (hx : ∀ (ch : Fin 3) (pr : Fin 14) (r : Fin 16) (pc : Fin 14) (s : Fin 16) (b : Fin 128), x (ix6 ch pr r pc s b)
      = X (ix4 b ch (⟨pr.val * 16 + r.val, by omega⟩ : Fin 224) (⟨pc.val * 16 + s.val, by omega⟩ : Fin 224)))
    (hw : ∀ (k d : Fin 768), w (ix2 k d) = W (ix2 k d)) (p : Fin 196) (b : Fin 128) (d : Fin 768) : tokK x w p b d = tok X W b p d := by
  unfold tokK tok pix
  simp only [hx, hw]

/-- The named constant is one over the number of patches. -/
theorem named_nt : (Named.named Cert.KernelIdeal.κ "inv_nt" (1000812293#32) : Ideal .f32) = ((1 / 196 : ℝ) : EReal) :=
  IdealRules.named_const.ideal_named_scalar _ _ _ _ rfl

/-- The kernel's logits, from the token sum times 1/196, are those of the mean token. -/
theorem logitK_eq (Z : Arr 2 ![128, 768]) (D : Arr 2 ![1000, 768]) (hZ : ∀ b d, Z (ix2 b d) = ∑ p, tok X W b p d) (hD : ∀ n d, D (ix2 n d) = C (ix2 d n))
    (b : Fin 128) (n : Fin 1000) : logitK Z D b n = logit X W C b n := by
  unfold logitK logit
  refine Finset.sum_congr rfl fun d _ => ?_
  rw [hZ, hD, named_nt, lit_196, Ideal.div_coe (by norm_num), mul_comm]

/-- Every token's row is a row of real numbers. -/
theorem tok_real (b : Fin 128) (p : Fin 196) : RealRow (tok X W b p) := row_of_real fun d => by unfold tok; exact tanh_real _

/-- With finite class weights the teacher's logits are real. -/
theorem logit_real (hC : ∀ i, ∃ r : ℝ, C i = r) (b : Fin 128) : RealRow (logit X W C b) := row_of_real fun n => by
  unfold logit
  refine sum_real _ fun d _ => mul_real ?_ (hC _)
  rw [lit_196]
  exact div_real (sum_real _ fun p _ => (tok_real b p).real d) (by norm_num)

/-- A column of the transposed logits is a row of the logits. -/
theorem colT_eq (t : Arr 2 ![1000, 128]) (ht : ∀ n b, t (ix2 n b) = T (ix2 b n)) (b : Fin 128) : colT t b = row2 T b := by
  funext n
  exact ht n b

/-- A row of a finite matrix is a row of real numbers. -/
theorem row2_real (hT : ∀ i, ∃ r : ℝ, T i = r) (b : Fin 128) : RealRow (row2 T b) := row_of_real fun n => hT _
/-- A row of a finite array of rank three is a row of real numbers. -/
theorem row3_real (hO : ∀ i, ∃ r : ℝ, O i = r) (b : Fin 128) (l : Fin 49) : RealRow (row3 O b l) := row_of_real fun n => hO _

/-- The kernel's class divergence, summed class by class over the images, is the specification's. -/
theorem klK_eq (Z : Arr 2 ![128, 768]) (D : Arr 2 ![1000, 768]) (t : Arr 2 ![1000, 128]) (hZ : ∀ b d, Z (ix2 b d) = ∑ p, tok X W b p d)
    (hD : ∀ n d, D (ix2 n d) = C (ix2 d n)) (ht : ∀ n b, t (ix2 n b) = T (ix2 b n)) (hC : ∀ i, ∃ r : ℝ, C i = r) (hT : ∀ i, ∃ r : ℝ, T i = r) :
    klK Z D t = kl X W C T := by
  unfold klK kl kld
  have e : ∀ b, logitK Z D b = logit X W C b := fun b => funext fun n => logitK_eq Z D hZ hD b n
  rw [Finset.sum_comm]
  refine congrArg (fun x => Ideal.div x _) (Finset.sum_congr rfl fun b _ => Finset.sum_congr rfl fun n _ => ?_)
  rw [e, colT_eq t ht, sub_lse (by norm_num) (logit_real hC b), sub_lse (by norm_num) (row2_real hT b)]

/-- For a label in range, the word equals a class's word exactly if the class is the label's. -/
theorem label_iff (w : BitVec 32) (h : 0 ≤ w.toInt) (h' : w.toInt < 1000) (n : Fin 1000) : w = BitVec.ofNat 32 n.val ↔ at' 1000 (by norm_num) w = n := by
  have hw : w.toNat < 2 ^ 31 := by
    rw [BitVec.toInt_eq_toNat_cond] at h
    split at h <;> omega
  have e : w.toInt = w.toNat := BitVec.toInt_eq_toNat_of_lt (by omega)
  have hv : ((at' 1000 (by norm_num) w : Fin 1000) : ℕ) = w.toNat := by
    show min w.toInt.toNat 999 = _
    omega
  constructor
  · intro hn
    refine Fin.ext (hv.trans ?_)
    rw [hn, BitVec.toNat_ofNat]
    omega
  · intro hn
    refine BitVec.eq_of_toNat_eq ?_
    rw [← hv, hn, BitVec.toNat_ofNat]
    omega

/-- The one-hot sum of the kernel picks the label's log-probability: its cross entropy is the specification's. -/
theorem ceK_eq (t : Arr 2 ![1000, 128]) (q : Wrd 2 ![1, 128]) (ht : ∀ n b, t (ix2 n b) = T (ix2 b n)) (hq : ∀ b, q (ix2 (0 : Fin 1) b) = L (ix1 b))
    (hT : ∀ i, ∃ r : ℝ, T i = r) (hL : ∀ b, 0 ≤ (L (ix1 b)).toInt ∧ (L (ix1 b)).toInt < 1000) : ceK t q = ce T L := by
  unfold ceK ce
  refine congrArg (fun x => Ideal.div x _) ?_
  rw [Finset.sum_comm]
  have e : ∀ b : Fin 128, ∑ n : Fin 1000, (colT t b n - lse (colT t b)) * (if q (ix2 (0 : Fin 1) b) = BitVec.ofNat 32 n.val then (1 : EReal) else 0)
      = lsm (row2 T b) (at' 1000 (by norm_num) (L (ix1 b))) := by
    intro b
    rw [colT_eq t ht, hq]
    simp only [sub_lse (by norm_num : 0 < 1000) (row2_real hT b), label_iff _ (hL b).1 (hL b).2, mul_ite, mul_one, mul_zero]
    rw [Finset.sum_ite_eq, if_pos (Finset.mem_univ _)]
  rw [Finset.sum_congr rfl fun b _ => e b]
  have hr : ∀ b : Fin 128, ∃ r : ℝ, lsm (row2 T b) (at' 1000 (by norm_num) (L (ix1 b))) = r := fun b => (lsm_real (by norm_num) (row2_real hT b)).real _
  choose g hg using hr
  simp only [hg, ← EReal.coe_neg, coe_sum, zero_sub, Finset.sum_neg_distrib]

/-- The kernel's masked divergence of one kept position is the specification's. -/
theorem klB_eq (S : Arr 3 ![128, 49, 768]) (hS : ∀ b l d, S (ix3 b l d) = tok X W b (at' 196 (by norm_num) (P (ix2 b l))) d) (hO : ∀ i, ∃ r : ℝ, O i = r)
    (b : Fin 128) (l : Fin 49) : klB M S O b l = tkl X W O P b l * sel M b l := by
  unfold klB tkl
  have e : row3 S b l = tok X W b (at' 196 (by norm_num) (P (ix2 b l))) := funext fun d => hS b l d
  rw [e, kld_eq (by norm_num) (tok_real _ _) (row3_real hO b l)]
  rfl

/-- The kernel's distillation loss is the specification's. -/
theorem distK_eq (S K : Arr 2 ![128, 49]) (hS : ∀ b l, S (ix2 b l) = sel M b l) (hK : ∀ b l, K (ix2 b l) = tkl X W O P b l * sel M b l) :
    distK S K = Cert.Spec.dist X W O P M := by
  unfold distK Cert.Spec.dist
  simp only [hS, hK]

/-- The ratio loss from the transposed scores is that from the scores. -/
theorem ratioK_eq {D₀ D₁ D₂ : Arr 2 ![128, 196]} (d₀ d₁ d₂ : Arr 2 ![196, 128]) (h : ∀ x b, d₀ (ix2 x b) = D₀ (ix2 b x) ∧ d₁ (ix2 x b) = D₁ (ix2 b x) ∧ d₂ (ix2 x b) = D₂ (ix2 b x)) :
    ratioK d₀ d₁ d₂ = ratio D₀ D₁ D₂ := by
  have e : ∀ (x : Fin 196) (b : Fin 128), ((ix2 b x : (⟨2, ![128, 196]⟩ : Shape).Idx) 1) = x ∧ ((ix2 b x : (⟨2, ![128, 196]⟩ : Shape).Idx) 0) = b := fun x b => ⟨rfl, rfl⟩
  unfold ratioK ratio keep
  simp only [e, fun x b => (h x b).1, fun x b => (h x b).2.1, fun x b => (h x b).2.2]

/-- The half distributes over the two divergences. -/
theorem loss_eq (c r k d : EReal) : c + r + Ideal.ofBits .f32 1056964608#32 * k + Ideal.ofBits .f32 1056964608#32 * d = c + r + Ideal.ofBits .f32 1056964608#32 * (k + d) := by
  rw [lit_half, EReal.left_distrib_of_nonneg_of_ne_top (by exact_mod_cast (by norm_num : (0 : ℝ) ≤ 1 / 2)) (EReal.coe_ne_top _), add_assoc]

end Cert.KernelIdeal.Own
-- ==== Proof.Ideal.Run.lean ====
module

public import proofs.«01_k».proof.Proof.Ideal.Region0
public import proofs.«01_k».proof.Proof.Ideal.Regions12

@[expose] public section

set_option maxRecDepth 16384

noncomputable section

/-! @main from the launch to the return: the contents of every buffer at each boundary of its host stretches and
pipelines, and the run through them. -/

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
abbrev hostOps0_W : List (Ref sig .tc) := [main_call0_v0, main_call0_v1, main_call0_v2, main_call0_v3, main_call0_v4, main_call0_v5, main_call0_v6, main_call0_v7]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_call0_c, main_call0_v9, main_call0_v10, main_call0_v11, main_call0_v12, main_call0_v13, main_call0_v14, main_call0_v15, main_call0_call0_c, main_call0_call0_v0, main_call0_call0_v1, main_call0_call0_c_0, main_call0_call0_v2, main_call0_call0_v3, main_call0_call0_v4, main_call0_call0_v5, main_call0_call0_c_1, main_call0_call0_c_2, main_call0_call0_v6, main_call0_call0_v7, main_call0_call0_v8, main_call0_call0_v9, main_call0_call0_v10, main_call0_call0_v11, main_call0_call0_c_3, main_call0_call0_v12, main_call0_call0_v13, main_call0_call0_v14, main_call0_call0_cst, main_call0_call0_v15, main_call0_v16]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_call0_v18]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v0_0, main_v0_1, main_v0_2, main_v0_3, main_v0_4]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
/-- The first stretch of host code changes only what it writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The contents after the teacher's pipeline. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The teacher's pipeline changes only its outputs. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
/-- The gather's host code changes only what it writes. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The contents after the distillation pipeline. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The distillation pipeline changes only its outputs. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
/-- The reshape of the labels changes only what it writes. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- The contents after the losses call. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The losses call changes only its outputs. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
/-- The last stretch of host code changes only what it writes. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)

abbrev adm : (p : Fin 3) → (pcfgs (F := F) p).Adm := fun p => (cfgs p).toPCfg_adm
/-- The three pipelines' contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every weakly fair execution of @main ends with the results at the last boundary's contents, the arguments as
    launched and every counter at zero. -/
theorem frame : θ_run defs (onTc (τ := τ) (main (F := F))) ⟨m, fun _ => 0, ρ⟩ (fun r => (∀ c : Dev nD,
      r.2.mem ((c.tc : Thread nD τ).loc main_v0_0) = W7 m ρ c (Proc.devRef .tc main_v0_0)
      ∧ r.2.mem ((c.tc : Thread nD τ).loc main_v0_1) = W7 m ρ c (Proc.devRef .tc main_v0_1)
      ∧ r.2.mem ((c.tc : Thread nD τ).loc main_v0_2) = W7 m ρ c (Proc.devRef .tc main_v0_2)
      ∧ r.2.mem ((c.tc : Thread nD τ).loc main_v0_3) = W7 m ρ c (Proc.devRef .tc main_v0_3)
      ∧ r.2.mem ((c.tc : Thread nD τ).loc main_v0_4) = W7 m ρ c (Proc.devRef .tc main_v0_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v0_0 (by decide)),
       h c _ (mem_uc main_v0_1 (by decide)),
       h c _ (mem_uc main_v0_2 (by decide)),
       h c _ (mem_uc main_v0_3 (by decide)),
       h c _ (mem_uc main_v0_4 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩), funext fun g => hz g (.inr (no_unscoped g.2))⟩)

end Cert.KernelIdeal.Own

end
-- ==== Proof.Value.Host.lean ====
module

public import proofs.«01_k».proof.Proof.Value.Math
public import proofs.«01_k».proof.Proof.Ideal.Run
public import Idealize.ShloMosaic.Lib.Pointwise
public import Idealize.ShloMosaic.Lib.StableHlo.ReadAt

@[expose] public section

set_option maxRecDepth 16384

noncomputable section

/-! The host operations round the pipelines, read at an index. -/

namespace Cert.KernelIdeal.Own

open Cert.KernelIdeal.Gen Cert.Spec
open Idealize.ShloMosaic Idealize.ShloMosaic.TcCoe
open Idealize.SL Idealize.SL.Sem

variable (σ : Valuation τ sig (Elt Ideal))

/-- The first stretch's pixels: the images transposed and split into patch rows and columns. -/
theorem host_pixels (ch : Fin 3) (pr : Fin 14) (r : Fin 16) (pc : Fin 14) (s : Fin 16) (b : Fin 128) :
    StableHlo.after (hostOps0 (F := Ideal)) σ (Proc.devRef .tc main_call0_v1) (ix6 ch pr r pc s b)
      = σ (Proc.devRef .tc main_arg0) (ix4 b ch (⟨pr.val * 16 + r.val, by omega⟩ : Fin 224) (⟨pc.val * 16 + s.val, by omega⟩ : Fin 224)) := by
  after_reads_at

/-- The transposed class weights. -/
theorem host_v2 (n : Fin 1000) (d : Fin 768) :
    StableHlo.after (hostOps0 (F := Ideal)) σ (Proc.devRef .tc main_call0_v2) (ix2 n d) = σ (Proc.devRef .tc main_arg10) (ix2 d n) := by
  after_reads_at

/-- The transposed student logits. -/
theorem host_v3 (n : Fin 1000) (b : Fin 128) :
    StableHlo.after (hostOps0 (F := Ideal)) σ (Proc.devRef .tc main_call0_v3) (ix2 n b) = σ (Proc.devRef .tc main_arg1) (ix2 b n) := by
  after_reads_at

/-- The three transposed score matrices. -/
theorem host_v4 (x : Fin 196) (b : Fin 128) :
    StableHlo.after (hostOps0 (F := Ideal)) σ (Proc.devRef .tc main_call0_v4) (ix2 x b) = σ (Proc.devRef .tc main_arg4) (ix2 b x)
    ∧ StableHlo.after (hostOps0 (F := Ideal)) σ (Proc.devRef .tc main_call0_v5) (ix2 x b) = σ (Proc.devRef .tc main_arg5) (ix2 b x)
    ∧ StableHlo.after (hostOps0 (F := Ideal)) σ (Proc.devRef .tc main_call0_v6) (ix2 x b) = σ (Proc.devRef .tc main_arg6) (ix2 b x) := by
  refine ⟨?_, ?_, ?_⟩
  all_goals after_reads_at

/-- The patch weights, whose cast changes nothing. -/
theorem host_v7 (x y : Fin 768) :
    StableHlo.after (hostOps0 (F := Ideal)) σ (Proc.devRef .tc main_call0_v7) (ix2 x y) = σ (Proc.devRef .tc main_arg9) (ix2 x y) := by
  after_reads_at

/-- The labels as one row. -/
theorem host_v18 (b : Fin 128) :
    StableHlo.after (hostOps2 (F := Ideal)) σ (Proc.devRef .tc main_call0_v18) (ix2 (0 : Fin 1) b) = σ (Proc.devRef .tc main_arg8) (ix1 b) := by
  after_reads_at

/-- The five results are the entries of the last pipeline's outputs. -/
theorem host_out (i : S_.Idx) :
    StableHlo.after (hostOps3 (F := Ideal)) σ (Proc.devRef .tc main_v0_0) i = σ (Proc.devRef .tc main_call0_v19_0) (ix2 (0 : Fin 1) (0 : Fin 1))
    ∧ StableHlo.after (hostOps3 (F := Ideal)) σ (Proc.devRef .tc main_v0_1) i = σ (Proc.devRef .tc main_call0_v19_1) (ix2 (0 : Fin 1) (0 : Fin 1))
    ∧ StableHlo.after (hostOps3 (F := Ideal)) σ (Proc.devRef .tc main_v0_2) i = σ (Proc.devRef .tc main_call0_v19_2) (ix2 (0 : Fin 1) (0 : Fin 1))
    ∧ StableHlo.after (hostOps3 (F := Ideal)) σ (Proc.devRef .tc main_v0_3) i = σ (Proc.devRef .tc main_call0_v19_3) (ix2 (0 : Fin 1) (0 : Fin 1))
    ∧ StableHlo.after (hostOps3 (F := Ideal)) σ (Proc.devRef .tc main_v0_4) i = σ (Proc.devRef .tc main_call0_v19_4) (ix2 (0 : Fin 1) (0 : Fin 1)) := by
  refine ⟨?_, ?_, ?_, ?_, ?_⟩
  all_goals after_reads_at

end Cert.KernelIdeal.Own
-- ==== Proof.Value.RefA.lean ====
module

public import proofs.«01_k».proof.Proof.Value.Math
public import proofs.«01_k».proof.Proof.Gen.ReferenceIdeal.Read
public import Idealize.ShloMosaic.Lib.Pipeline.ValueKit

@[expose] public section

set_option maxRecDepth 16384

noncomputable section

/-! The reference's stages read at an index. -/

namespace Cert.Ref

open Cert.ReferenceIdeal Cert.ReferenceIdeal.Gen Cert.ReferenceIdeal.Read Cert.Spec
open Idealize.ShloMosaic Idealize.ShloMosaic.TcCoe

/-- The student's log-softmax, as the cross entropy uses it. -/
theorem ref_lsm0 (x1 : FVec Ideal S128x1000 .f32) (b : Fin 128) (n : Fin 1000) :
    val_main_v0 (F := Ideal) x1 (ix2 b n) = lsm (row2 x1 b) n := by
  pointwise [val_main_v0, val_main_call0_v10, val_main_call0_v9, val_main_call0_v8, val_main_call0_v7, val_main_call0_cst_1, val_main_call0_v6, val_main_call0_v5, val_main_call0_v4, val_main_call0_v3, val_main_call0_v2, val_main_call0_v1, val_main_call0_v0, val_main_call0_cst, val_main_call0_cst_0]
  have h := max_top (row2 x1 b)
  unfold top row2 at h
  rw [h]
  rfl

/-- The student's log-softmax, as the divergence uses it. -/
theorem ref_lsm2 (x1 : FVec Ideal S128x1000 .f32) (b : Fin 128) (n : Fin 1000) :
    val_main_v43 (F := Ideal) x1 (ix2 b n) = lsm (row2 x1 b) n := by
  pointwise [val_main_v43, val_main_call2_v10, val_main_call2_v9, val_main_call2_v8, val_main_call2_v7, val_main_call2_cst_1, val_main_call2_v6, val_main_call2_v5, val_main_call2_v4, val_main_call2_v3, val_main_call2_v2, val_main_call2_v1, val_main_call2_v0, val_main_call2_cst, val_main_call2_cst_0]
  have h := max_top (row2 x1 b)
  unfold top row2 at h
  rw [h]
  rfl

/-- The teacher's tokens. -/
theorem ref_tok (x0 : FVec Ideal S128x3x224x224 .f32) (x9 : FVec Ideal S768x768 .f32) (b : Fin 128) (p : Fin 196) (d : Fin 768) :
    val_main_v38 (F := Ideal) x0 x9 (ix3 b p d) = tok x0 x9 b p d := by
  pointwise [val_main_v38, val_main_v37, val_main_v36, val_main_v35, val_main_v34, dot_S128x196x768_S768x768_S128x196x768_2_0_01_1_n_n]
  rfl

/-- The teacher's logits. -/
theorem ref_logit (x0 : FVec Ideal S128x3x224x224 .f32) (x9 : FVec Ideal S768x768 .f32) (x10 : FVec Ideal S768x1000 .f32) (b : Fin 128) (n : Fin 1000) :
    val_main_v42 (F := Ideal) x0 x9 x10 (ix2 b n) = logit x0 x9 x10 b n := by
  pointwise [val_main_v42, val_main_v41, val_main_v40, val_main_v39, val_main_cst_17, val_main_cst_18, dot_S128x768_S768x1000_S128x1000_1_0_0_1_n_n, ref_tok]
  rfl

/-- The teacher's log-softmax. -/
theorem ref_lsm3 (x0 : FVec Ideal S128x3x224x224 .f32) (x9 : FVec Ideal S768x768 .f32) (x10 : FVec Ideal S768x1000 .f32) (b : Fin 128) (n : Fin 1000) :
    val_main_v44 (F := Ideal) x0 x9 x10 (ix2 b n) = lsm (logit x0 x9 x10 b) n := by
  pointwise [val_main_v44, val_main_call3_v10, val_main_call3_v9, val_main_call3_v8, val_main_call3_v7, val_main_call3_cst_1, val_main_call3_v6, val_main_call3_v5, val_main_call3_v4, val_main_call3_v3, val_main_call3_v2, val_main_call3_v1, val_main_call3_v0, val_main_call3_cst, val_main_call3_cst_0, ref_logit]
  have h := max_top (logit x0 x9 x10 b)
  unfold top at h
  rw [h]
  rfl

/-- The class divergence. -/
theorem ref_kl (x0 : FVec Ideal S128x3x224x224 .f32) (x1 : FVec Ideal S128x1000 .f32) (x9 : FVec Ideal S768x768 .f32) (x10 : FVec Ideal S768x1000 .f32) (i : S_.Idx) :
    val_main_v49 (F := Ideal) x0 x1 x9 x10 i = kl x0 x9 x10 x1 := by
  pointwise [val_main_v49, val_main_cst_20, val_main_v48, val_main_cst_19, val_main_v47, val_main_v46, val_main_v45, ref_lsm2, ref_lsm3]
  rfl

/-- The ratio loss. -/
theorem ref_ratio (x4 x5 x6 : FVec Ideal S128x196 .f32) (i : S_.Idx) : val_main_v87 (F := Ideal) x4 x5 x6 i = ratio x4 x5 x6 := by
  pointwise [val_main_v87, val_main_cst_32, val_main_v86, val_main_cst_31, val_main_v33, val_main_v32, val_main_cst_16, val_main_v31, val_main_cst_15, val_main_v30, val_main_v29, val_main_v28, val_main_cst_14, val_main_v27, val_main_v26, val_main_cst_13, val_main_v25, val_main_cst_12, val_main_v24, val_main_v23, val_main_cst_11, val_main_v22, val_main_cst_10, val_main_v21, val_main_v20, val_main_v19, val_main_cst_9, val_main_v18, val_main_v17, val_main_cst_8, val_main_v16, val_main_cst_7, val_main_v15, val_main_cst_6, val_main_v14, val_main_cst_5, val_main_v13, val_main_cst_4, val_main_v12, val_main_v11, val_main_v10, val_main_cst_3, val_main_v9, val_main_v8, val_main_cst_2, val_main_v7, val_main_cst_1]
  rfl

/-- Row `r` of the flattened tokens is token `r % 49` of image `r / 49`. -/
abbrev img (r : Fin 6272) : Fin 128 := ⟨r.val / 49, by omega⟩
abbrev pos (r : Fin 6272) : Fin 49 := ⟨r.val % 49, by omega⟩

/-- The mask, over the flattened rows. -/
theorem ref_mask (x3 : FVec Ideal S128x49 .f32) (r : Fin 6272) : val_main_v70 (F := Ideal) x3 (ix1 r) = sel x3 (img r) (pos r) := by
  pointwise [val_main_v70, val_main_v69, val_main_v68, val_main_v67, val_main_cst_24]
  unfold sel
  by_cases h : Ideal.ofBits FTy.f32 1056964608#32 < x3 (ix2 (img r) (pos r)) <;> simp [h, FloatOps.uitofp]

/-- A sum over the flattened rows is one over images and kept positions. -/
theorem sum_rows (f : Fin 128 → Fin 49 → EReal) : ∑ r : Fin 6272, f (img r) (pos r) = ∑ b, ∑ l, f b l := by
  rw [← Finset.sum_product']
  refine Finset.sum_bij' (fun r _ => (img r, pos r)) (fun p _ => (⟨p.1.val * 49 + p.2.val, by omega⟩ : Fin 6272)) ?_ ?_ ?_ ?_ ?_
  · intro r _; simp
  · intro p _; simp
  · intro r _; ext; simp; omega
  · intro p _; refine Prod.ext (Fin.ext ?_) (Fin.ext ?_) <;> simp <;> omega
  · intro r _; rfl

/-- The number of kept rows. -/
theorem ref_count (x3 : FVec Ideal S128x49 .f32) (i : S_.Idx) : val_main_v71 (F := Ideal) x3 i = ∑ b, ∑ l, sel x3 b l := by
  pointwise [val_main_v71, val_main_cst_25, ref_mask]
  exact sum_rows (fun b l => sel x3 b l)

end Cert.Ref
-- ==== Proof.Value.RefB.lean ====
module

public import proofs.«01_k».proof.Proof.Value.RefA

@[expose] public section

set_option maxRecDepth 16384

noncomputable section

/-! The reference's gathers and the rows of its token divergence. -/

namespace Cert.Ref

open Cert.ReferenceIdeal Cert.ReferenceIdeal.Gen Cert.ReferenceIdeal.Read Cert.Spec
open Idealize.ShloMosaic Idealize.ShloMosaic.TcCoe

/-- The gather of the labels' log-probabilities reads the class that the index word names, clamped into range. -/
theorem gather_label (x : FVec Ideal S128x1000 .f32) (idx : IVec S128x1x1 32) (b : Fin 128) :
    Host.gather gather_S128x1000_S128x1x1_S128x1_n_1_0_0_1_2_11 x idx (ix2 b (0 : Fin 1))
      = x (ix2 b (at' 1000 (by norm_num) (idx (ix3 b (0 : Fin 1) (0 : Fin 1))))) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (by decide)]
    exact Nat.zero_add _
  · rw [GatherDims.batchCoord_eq_zero _ _ _ (fun h => by revert h; decide),
      GatherDims.offCoord_eq_zero _ _ _ (fun h => ((GatherDims.mem_sKept _ _).mp h).1 (List.mem_singleton.mpr rfl))]
    unfold GatherDims.start
    rw [dif_pos (by decide)]
    have hsi : ∀ c, GatherDims.siIdx gather_S128x1000_S128x1x1_S128x1_n_1_0_0_1_2_11 (ix2 b (0 : Fin 1)) c
        = ix3 b (0 : Fin 1) (0 : Fin 1) := by
      intro c
      funext d
      match d with
      | ⟨0, _⟩ => rfl
      | ⟨1, _⟩ => rfl
      | ⟨2, _⟩ => exact Subsingleton.elim (α := Fin 1) _ _
    rw [hsi]
    rfl

/-- The gather of the tokens reads the image and patch that the index words name, clamped into range. -/
theorem gather_token (x : FVec Ideal S128x196x768 .f32) (idx : IVec S128x49x2 32) (b : Fin 128) (l : Fin 49) (d : Fin 768) :
    Host.gather gather_S128x196x768_S128x49x2_S128x49x768_2_01_n_n_01_2_11768 x idx (ix3 b l d)
      = x (ix3 (at' 128 (by norm_num) (idx (ix3 b l (0 : Fin 2)))) (at' 196 (by norm_num) (idx (ix3 b l (1 : Fin 2)))) d) := by
  unfold Host.gather
  congr 1
  funext a
  refine Fin.ext ?_
  show GatherDims.start _ _ idx a + GatherDims.batchCoord _ _ a + GatherDims.offCoord _ _ a = _
  rw [GatherDims.batchCoord_eq_zero _ _ _ (fun h => by simp [gather_S128x196x768_S128x49x2_S128x49x768_2_01_n_n_01_2_11768] at h)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by decide))]
    unfold GatherDims.start
    rw [dif_pos (by decide)]
    have hsi : GatherDims.siIdx gather_S128x196x768_S128x49x2_S128x49x768_2_01_n_n_01_2_11768 (ix3 b l d) ⟨0, by decide⟩
        = ix3 b l (0 : Fin 2) := by
      funext d
      match d with
      | ⟨0, _⟩ => rfl
      | ⟨1, _⟩ => rfl
      | ⟨2, _⟩ => rfl
    exact congrArg (fun i => min (idx i).toInt.toNat 127) hsi
  · rw [GatherDims.offCoord_eq_zero _ _ _ (fun h => ((GatherDims.mem_sKept _ _).mp h).1 (by decide))]
    unfold GatherDims.start
    rw [dif_pos (by decide)]
    have hsi : GatherDims.siIdx gather_S128x196x768_S128x49x2_S128x49x768_2_01_n_n_01_2_11768 (ix3 b l d) ⟨1, by decide⟩
        = ix3 b l (1 : Fin 2) := by
      funext d
      match d with
      | ⟨0, _⟩ => rfl
      | ⟨1, _⟩ => rfl
      | ⟨2, _⟩ => rfl
    exact congrArg (fun i => min (idx i).toInt.toNat 195) hsi
  · unfold GatherDims.start GatherDims.offCoord
    rw [dif_neg (by decide), dif_pos (by decide)]
    exact Nat.zero_add _

/-- A word that is not negative passes the wrap-around of negative indices unchanged. -/
theorem wrap_id (w a : BitVec 32) (h : 0 ≤ w.toInt) : Scalar.select (IntOp.cmpi .slt w 0#32) a w = w := by
  have h0 : IntOp.cmpi .slt w 0#32 = 0#1 := by
    unfold IntOp.cmpi
    have h1 : w.slt 0#32 = false := by
      rw [BitVec.slt, BitVec.toInt_zero]
      exact decide_eq_false (not_lt.mpr h)
    rw [h1]
    rfl
  rw [h0]
  rfl

/-- A label that is not negative is not wrapped. -/
theorem at_label (x8 : IVec S128 32) (b : Fin 128) (h : 0 ≤ (x8 (ix1 b)).toInt) (k : Fin 1) :
    val_main_call1_v5 (F := Ideal) x8 (ix3 b (0 : Fin 1) k) = x8 (ix1 b) := by
  rw [Subsingleton.elim k 0]
  pointwise [val_main_call1_v5, val_main_call1_v4, val_main_call1_v3, val_main_call1_v2, val_main_call1_v1, val_main_call1_v0, val_main_v1, val_main_call1_c, val_main_call1_c_0]
  exact wrap_id _ _ h

/-- A label in range passes the range test. -/
theorem in_label (x8 : IVec S128 32) (b : Fin 128) (h : 0 ≤ (x8 (ix1 b)).toInt) (h' : (x8 (ix1 b)).toInt < 1000) :
    val_main_call1_v12 (F := Ideal) x8 (ix2 b (0 : Fin 1)) = 1#1 := by
  unfold val_main_call1_v12
  pointwise [val_main_call1_v11, val_main_call1_v10, val_main_call1_v9, val_main_call1_v8, val_main_call1_c_1, val_main_call1_v7, val_main_call1_v6, val_main_call1_c_2, val_main_call1_c_3]
  rw [Finset.univ_unique, Finset.fold_singleton, at_label x8 b h]
  have h1 : IntOp.cmpi .sge (x8 (ix1 b)) 0#32 = 1#1 := IntOp.cmpi_sge.2 h
  have h2 : IntOp.cmpi .sle (x8 (ix1 b)) 999#32 = 1#1 := IntOp.cmpi_sle.2 (by
    have : (999#32 : BitVec 32).toInt = 999 := by decide
    omega)
  rw [h1, h2]
  rfl

/-- The image word of a gathered token. -/
theorem tok_pos (x7 : IVec S128x49 32) (b : Fin 128) (l : Fin 49) :
    val_main_v65 (F := Ideal) x7 (ix3 b l (0 : Fin 2)) = BitVec.ofNat 32 b.val := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_c, val_main_c_21, val_main_c_22, val_main_c_23]
  refine wrap_id _ _ ?_
  rw [BitVec.toInt_eq_toNat_of_lt (by rw [BitVec.toNat_ofNat]; omega)]
  omega

/-- The patch word of a gathered token: a position that is not negative is not wrapped. -/
theorem tok_pos' (x7 : IVec S128x49 32) (b : Fin 128) (l : Fin 49) (h : 0 ≤ (x7 (ix2 b l)).toInt) :
    val_main_v65 (F := Ideal) x7 (ix3 b l (1 : Fin 2)) = x7 (ix2 b l) := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_c, val_main_c_21, val_main_c_22, val_main_c_23]
  exact wrap_id _ _ h

/-- An image's number read back from its word. -/
theorem at_img (b : Fin 128) : at' 128 (by norm_num) (BitVec.ofNat 32 b.val) = b := by
  refine Fin.ext ?_
  show min (BitVec.ofNat 32 b.val).toInt.toNat 127 = b.val
  rw [BitVec.toInt_eq_toNat_of_lt (by rw [BitVec.toNat_ofNat]; omega), BitVec.toNat_ofNat, Int.toNat_natCast]
  omega

/-- The gathered teacher token. -/
theorem ref_picked (x0 : FVec Ideal S128x3x224x224 .f32) (x7 : IVec S128x49 32) (x9 : FVec Ideal S768x768 .f32) (b : Fin 128) (l : Fin 49) (d : Fin 768)
    (h : 0 ≤ (x7 (ix2 b l)).toInt) : val_main_v66 (F := Ideal) x0 x7 x9 (ix3 b l d) = tok x0 x9 b (at' 196 (by norm_num) (x7 (ix2 b l))) d := by
  unfold val_main_v66
  rw [gather_token, tok_pos, tok_pos' _ _ _ h, at_img, ref_tok]

/-- The cross entropy. -/
theorem ref_ce (x1 : FVec Ideal S128x1000 .f32) (x8 : IVec S128 32) (h : ∀ b, 0 ≤ (x8 (ix1 b)).toInt ∧ (x8 (ix1 b)).toInt < 1000) (i : S_.Idx) :
    val_main_v6 (F := Ideal) x1 x8 i = ce x1 x8 := by
  have hp : ∀ b : Fin 128, val_main_v2 (F := Ideal) x1 x8 (ix2 b (0 : Fin 1)) = lsm (row2 x1 b) (at' 1000 (by norm_num) (x8 (ix1 b))) := by
    intro b
    rw [val_main_v2_apply, in_label x8 b (h b).1 (h b).2]
    show val_main_call1_v13 (F := Ideal) x1 x8 (ix2 b (0 : Fin 1)) = _
    unfold val_main_call1_v13
    rw [gather_label, at_label x8 b (h b).1, ref_lsm0]
  pointwise [val_main_v6, val_main_v5, val_main_v4, val_main_v3, val_main_cst, val_main_cst_0, hp]
  rfl

end Cert.Ref
-- ==== Proof.Value.Pick.lean ====
module

public import proofs.«01_k».proof.Proof.Value.Math
public import proofs.«01_k».proof.Proof.Ideal.Run
public import proofs.«01_k».proof.Proof.Value.RefB
public import Idealize.ShloMosaic.Lib.Pointwise
public import Idealize.ShloMosaic.Lib.StableHlo.ReadAt

@[expose] public section

set_option maxRecDepth 16384

noncomputable section

/-! The gather of the kernel's host. -/

namespace Cert.KernelIdeal.Own

open Cert.KernelIdeal.Gen Cert.Spec
open Idealize.ShloMosaic Idealize.ShloMosaic.TcCoe
open Idealize.SL Idealize.SL.Sem

variable (σ : Valuation τ sig (Elt Ideal))

/-- The host's gather reads the row that the index word names, clamped into range. -/
theorem gather_rows (x : FVec Ideal S25088x768 .bf16) (idx : IVec S128x49x1 32) (b : Fin 128) (l : Fin 49) (d : Fin 768) :
    Host.gather gather_S25088x768_S128x49x1_S128x49x768_2_0_n_n_0_2_1768 x idx (ix3 b l d)
      = x (ix2 (at' 25088 (by norm_num) (idx (ix3 b l (0 : Fin 1)))) d) := by
  unfold Host.gather
  congr 1
  funext a
  refine Fin.ext ?_
  show GatherDims.start _ _ idx a + GatherDims.batchCoord _ _ a + GatherDims.offCoord _ _ a = _
  rw [GatherDims.batchCoord_eq_zero _ _ _ (fun h => by simp [gather_S25088x768_S128x49x1_S128x49x768_2_0_n_n_0_2_1768] at h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (by decide))]
    unfold GatherDims.start
    rw [dif_pos (by decide)]
    have hsi : GatherDims.siIdx gather_S25088x768_S128x49x1_S128x49x768_2_0_n_n_0_2_1768 (ix3 b l d) ⟨0, by decide⟩ = ix3 b l (0 : Fin 1) := by
      funext d
      match d with
      | ⟨0, _⟩ => rfl
      | ⟨1, _⟩ => rfl
      | ⟨2, _⟩ => rfl
    exact congrArg (fun i => min (idx i).toInt.toNat (25088 - 1)) hsi
  · unfold GatherDims.start GatherDims.offCoord
    rw [dif_neg (by decide), dif_pos (by decide)]
    exact Nat.zero_add _

/-- The row of an image's position, as a word. -/
def rowW (P : Wrd 2 ![128, 49]) (b : Fin 128) (l : Fin 49) : BitVec 32 := IntOp.addi (IntOp.muli (P (ix2 b l)) 128#32) (BitVec.ofNat 32 b.val)

/-- For a position in range the row's word is position times 128 plus image, without overflow. -/
theorem rowW_int (P : Wrd 2 ![128, 49]) (b : Fin 128) (l : Fin 49) (h : 0 ≤ (P (ix2 b l)).toInt) (h' : (P (ix2 b l)).toInt < 196) :
    (rowW P b l).toInt = (P (ix2 b l)).toInt.toNat * 128 + b.val := by
  unfold rowW
  generalize P (ix2 b l) = w at h h'
  have hw : w.toNat < 2 ^ 31 := by
    rw [BitVec.toInt_eq_toNat_cond] at h
    split at h <;> omega
  have e : w.toInt = w.toNat := BitVec.toInt_eq_toNat_of_lt (by omega)
  rw [e] at h' ⊢
  have hn : w.toNat < 196 := by omega
  have hv : (IntOp.addi (IntOp.muli w 128#32) (BitVec.ofNat 32 b.val)).toNat = w.toNat * 128 + b.val := by
    show ((w * 128#32) + BitVec.ofNat 32 b.val).toNat = _
    rw [BitVec.toNat_add, BitVec.toNat_mul, BitVec.toNat_ofNat, BitVec.toNat_ofNat]
    omega
  rw [BitVec.toInt_eq_toNat_of_lt (by omega), hv]
  simp

/-- The gathered token is the one of the image at the kept position. -/
theorem host_picked (b : Fin 128) (l : Fin 49) (d : Fin 768) (h : 0 ≤ (σ (Proc.devRef .tc main_arg7) (ix2 b l)).toInt) (h' : (σ (Proc.devRef .tc main_arg7) (ix2 b l)).toInt < 196) :
    StableHlo.after (hostOps1 (F := Ideal)) σ (Proc.devRef .tc main_call0_v16) (ix3 b l d)
      = σ (Proc.devRef .tc main_call0_v8_0) (ix3 (at' 196 (by norm_num) (σ (Proc.devRef .tc main_arg7) (ix2 b l))) b d) := by
  have hr := rowW_int (σ (Proc.devRef .tc main_arg7)) b l h h'
  have h0 : 0 ≤ (rowW (σ (Proc.devRef .tc main_arg7)) b l).toInt := by rw [hr]; omega
  have hw : ∀ a, Scalar.select (IntOp.cmpi .slt (rowW (σ (Proc.devRef .tc main_arg7)) b l) 0#32) a (rowW (σ (Proc.devRef .tc main_arg7)) b l) = rowW (σ (Proc.devRef .tc main_arg7)) b l :=
    fun a => Cert.Ref.wrap_id _ a h0
  unfold rowW at hw
  after_reads_at
  rw [gather_rows]
  simp only [hw]
  pointwise [hw]
  have h25 : (25087#32 : BitVec 32).toInt = 25087 := by decide
  have h1 : IntOp.cmpi .sge (rowW (σ (Proc.devRef .tc main_arg7)) b l) 0#32 = 1#1 := IntOp.cmpi_sge.2 h0
  have h2 : IntOp.cmpi .sle (rowW (σ (Proc.devRef .tc main_arg7)) b l) 25087#32 = 1#1 := IntOp.cmpi_sle.2 (by omega)
  unfold rowW at h1 h2 hr
  rw [Finset.univ_unique, Finset.fold_singleton, h1, h2]
  show σ (Proc.devRef .tc main_call0_v8_0) _ = _
  congr 1
  have e : ((at' 25088 (by norm_num) (IntOp.addi (IntOp.muli (σ (Proc.devRef .tc main_arg7) (ix2 b l)) 128#32) (BitVec.ofNat 32 b.val)) : Fin 25088) : ℕ)
      = (BitVec.toInt (σ (Proc.devRef .tc main_arg7) (ix2 b l))).toNat * 128 + b.val := by
    show min (BitVec.toInt _).toNat 25087 = _
    rw [hr]
    omega
  have e' : ((at' 196 (by norm_num) (σ (Proc.devRef .tc main_arg7) (ix2 b l)) : Fin 196) : ℕ) = (BitVec.toInt (σ (Proc.devRef .tc main_arg7) (ix2 b l))).toNat := by
    show min (BitVec.toInt _).toNat 195 = _
    omega
  have ea : ∀ (p q : Fin 196) (x y : Fin 128), (p : ℕ) = q → (x : ℕ) = y → ix3 p x d = ix3 q y d := by
    intro p q x y hp hx
    rw [Fin.ext hp, Fin.ext hx]
  refine ea _ _ _ _ ?_ ?_
  · show _ / 128 = _
    rw [e, e']
    omega
  · show _ % 128 = _
    rw [e]
    omega

end Cert.KernelIdeal.Own
-- ==== Proof.Value.Results.lean ====
module

public import proofs.«01_k».proof.Proof.Value.Math
public import proofs.«01_k».proof.Proof.Value.Bring
public import proofs.«01_k».proof.Proof.Value.Host
public import proofs.«01_k».proof.Proof.Value.Pick
public import Idealize.ShloMosaic.Lib.Pointwise

@[expose] public section

set_option maxRecDepth 16384

noncomputable section

/-! The kernel's five results, boundary by boundary. -/

namespace Cert.KernelIdeal.Own

open Cert.KernelIdeal.Gen Cert.Spec
open Idealize.ShloMosaic Idealize.ShloMosaic.TcCoe
open Idealize.SL Idealize.SL.Sem

variable (m : (ℓ : Loc nD τ sig) → Buf (Elt Ideal) ℓ) (ρ : Dev nD → PrngReg) (c : Dev nD)

/-! ### The first stretch's arrays, and what they hold later -/

/-- The token computed from the first stretch's arrays, in terms of the arguments. -/
theorem at_tok (p : Fin 196) (b : Fin 128) (d : Fin 768) :
    tokK (V1 m ρ c main_call0_v1) (V1 m ρ c main_call0_v7) p b d = tok (m ((c : Thread nD τ).loc main_arg0)) (m ((c : Thread nD τ).loc main_arg9)) b p d :=
  tokK_eq _ _ (fun ch pr r pc s b => host_pixels (W0 m ρ c) ch pr r pc s b) (fun k d => host_v7 (W0 m ρ c) k d) p b d

/-- The tokens array after the first pipeline. -/
theorem at_tokens (p : Fin 196) (b : Fin 128) (d : Fin 768) :
    W2 m ρ c (Proc.devRef .tc main_call0_v8_0) (ix3 p b d) = tok (m ((c : Thread nD τ).loc main_arg0)) (m ((c : Thread nD τ).loc main_arg9)) b p d := by
  have e := (W2_arr m ρ c 2).trans (tokens_arr (V1 m ρ) c)
  exact (congrFun e (ix3 p b d)).trans (at_tok m ρ c p b d)

/-- The token sum as the last pipeline reads it. -/
theorem at_sum (b : Fin 128) (d : Fin 768) :
    V5 m ρ c main_call0_v8_1 (ix2 b d) = ∑ p, tok (m ((c : Thread nD τ).loc main_arg0)) (m ((c : Thread nD τ).loc main_arg9)) b p d := by
  have e := (W2_arr m ρ c 3).trans (sum_arr (V1 m ρ) c)
  have e5 : V5 m ρ c main_call0_v8_1 = W2 m ρ c (Proc.devRef .tc main_call0_v8_1) :=
    (W5_of m ρ c main_call0_v8_1 (by decide +kernel)).trans ((W4_of m ρ c main_call0_v8_1 (by decide +kernel)).trans (W3_of m ρ c main_call0_v8_1 (by decide +kernel)))
  rw [e5]
  have hs : ∑ p, tokK (V1 m ρ c main_call0_v1) (V1 m ρ c main_call0_v7) p b d
      = ∑ p, tok (m ((c : Thread nD τ).loc main_arg0)) (m ((c : Thread nD τ).loc main_arg9)) b p d := Finset.sum_congr rfl fun p _ => at_tok m ρ c p b d
  exact (congrFun e (ix2 b d)).trans hs

/-- A buffer that only the first stretch writes. -/
theorem kept (r : Ref sig .tc) (h5 : r ∉ hostOps2_W) (h4 : ∀ w : Fin cfg1.W, Pipeline.arrRef spec1 w = r → (cfg1.win w).isOut = false)
    (h3 : r ∉ hostOps1_W) (h2 : ∀ w : Fin cfg0.W, Pipeline.arrRef spec0 w = r → (cfg0.win w).isOut = false) :
    W5 m ρ c (Proc.devRef .tc r) = W1 m ρ c (Proc.devRef .tc r) :=
  (W5_of m ρ c r h5).trans ((W4_of m ρ c r h4).trans ((W3_of m ρ c r h3).trans (W2_of m ρ c r h2)))

/-- The transposed class weights as the last pipeline reads them. -/
theorem at_v2 (n : Fin 1000) (d : Fin 768) : V5 m ρ c main_call0_v2 (ix2 n d) = m ((c : Thread nD τ).loc main_arg10) (ix2 d n) :=
  (congrFun (kept m ρ c main_call0_v2 (by decide +kernel) (by decide +kernel) (by decide +kernel) (by decide +kernel)) (ix2 n d)).trans (host_v2 (W0 m ρ c) n d)
/-- The transposed logits as the last pipeline reads them. -/
theorem at_v3 (n : Fin 1000) (b : Fin 128) : V5 m ρ c main_call0_v3 (ix2 n b) = m ((c : Thread nD τ).loc main_arg1) (ix2 b n) :=
  (congrFun (kept m ρ c main_call0_v3 (by decide +kernel) (by decide +kernel) (by decide +kernel) (by decide +kernel)) (ix2 n b)).trans (host_v3 (W0 m ρ c) n b)
/-- The transposed scores as the last pipeline reads them. -/
theorem at_v456 (x : Fin 196) (b : Fin 128) : V5 m ρ c main_call0_v4 (ix2 x b) = m ((c : Thread nD τ).loc main_arg4) (ix2 b x)
    ∧ V5 m ρ c main_call0_v5 (ix2 x b) = m ((c : Thread nD τ).loc main_arg5) (ix2 b x) ∧ V5 m ρ c main_call0_v6 (ix2 x b) = m ((c : Thread nD τ).loc main_arg6) (ix2 b x) :=
  ⟨(congrFun (kept m ρ c main_call0_v4 (by decide +kernel) (by decide +kernel) (by decide +kernel) (by decide +kernel)) (ix2 x b)).trans (host_v4 (W0 m ρ c) x b).1,
   (congrFun (kept m ρ c main_call0_v5 (by decide +kernel) (by decide +kernel) (by decide +kernel) (by decide +kernel)) (ix2 x b)).trans (host_v4 (W0 m ρ c) x b).2.1,
   (congrFun (kept m ρ c main_call0_v6 (by decide +kernel) (by decide +kernel) (by decide +kernel) (by decide +kernel)) (ix2 x b)).trans (host_v4 (W0 m ρ c) x b).2.2⟩

/-- The labels as the last pipeline reads them. -/
theorem at_v18 (b : Fin 128) : V5 m ρ c main_call0_v18 (ix2 (0 : Fin 1) b) = m ((c : Thread nD τ).loc main_arg8) (ix1 b) :=
  (host_v18 (W4 m ρ c) b).trans (congrFun (W4_args m ρ c main_arg8 (by decide)) (ix1 b))

/-! ### The distillation's arrays -/

/-- The mask as the last pipeline reads it. -/
theorem at_sel (b : Fin 128) (l : Fin 49) : V5 m ρ c main_call0_v17_1 (ix2 b l) = sel (m ((c : Thread nD τ).loc main_arg3)) b l := by
  have e := (W5_of m ρ c main_call0_v17_1 (by decide +kernel)).trans ((W4_arr m ρ c 4).trans (sel_arr (V3 m ρ) c))
  refine (congrFun e (ix2 b l)).trans ?_
  show selB (W3 m ρ c (Proc.devRef .tc main_arg3)) b l = _
  rw [W3_args m ρ c main_arg3 (by decide)]
  rfl

/-- The masked divergences as the last pipeline reads them. -/
theorem at_kl (hP : ∀ b l, 0 ≤ (m ((c : Thread nD τ).loc main_arg7) (ix2 b l)).toInt ∧ (m ((c : Thread nD τ).loc main_arg7) (ix2 b l)).toInt < 196)
    (hO : ∀ i, ∃ r : ℝ, m ((c : Thread nD τ).loc main_arg2) i = (r : EReal)) (b : Fin 128) (l : Fin 49) :
    V5 m ρ c main_call0_v17_0 (ix2 b l) = tkl (m ((c : Thread nD τ).loc main_arg0)) (m ((c : Thread nD τ).loc main_arg9)) (m ((c : Thread nD τ).loc main_arg2))
      (m ((c : Thread nD τ).loc main_arg7)) b l * sel (m ((c : Thread nD τ).loc main_arg3)) b l := by
  have e := (W5_of m ρ c main_call0_v17_0 (by decide +kernel)).trans ((W4_arr m ρ c 3).trans (kl_arr (V3 m ρ) c))
  refine (congrFun e (ix2 b l)).trans ?_
  show klB (W3 m ρ c (Proc.devRef .tc main_arg3)) (W3 m ρ c (Proc.devRef .tc main_call0_v16)) (W3 m ρ c (Proc.devRef .tc main_arg2)) b l = _
  rw [W3_args m ρ c main_arg3 (by decide), W3_args m ρ c main_arg2 (by decide)]
  refine klB_eq _ (fun b l d => ?_) hO b l
  have e7 : W2 m ρ c (Proc.devRef .tc main_arg7) = m ((c : Thread nD τ).loc main_arg7) := W2_args m ρ c main_arg7 (by decide)
  have h := host_picked (W2 m ρ c) b l d (by rw [e7]; exact (hP b l).1) (by rw [e7]; exact (hP b l).2)
  rw [e7] at h
  exact h.trans (at_tokens m ρ c _ _ _)

/-! ### The results -/

/-- With finite logits, student tokens and class weights, and labels and positions in range, the kernel's five results are the
    losses of the specification. -/
theorem results (hT : ∀ i, ∃ r : ℝ, m ((c : Thread nD τ).loc main_arg1) i = (r : EReal)) (hO : ∀ i, ∃ r : ℝ, m ((c : Thread nD τ).loc main_arg2) i = (r : EReal))
    (hC : ∀ i, ∃ r : ℝ, m ((c : Thread nD τ).loc main_arg10) i = (r : EReal))
    (hL : ∀ b, 0 ≤ (m ((c : Thread nD τ).loc main_arg8) (ix1 b)).toInt ∧ (m ((c : Thread nD τ).loc main_arg8) (ix1 b)).toInt < 1000)
    (hP : ∀ b l, 0 ≤ (m ((c : Thread nD τ).loc main_arg7) (ix2 b l)).toInt ∧ (m ((c : Thread nD τ).loc main_arg7) (ix2 b l)).toInt < 196) (i : S_.Idx) :
    (W7 m ρ c (Proc.devRef .tc main_v0_0) i = ce (m ((c : Thread nD τ).loc main_arg1)) (m ((c : Thread nD τ).loc main_arg8))
        + ratio (m ((c : Thread nD τ).loc main_arg4)) (m ((c : Thread nD τ).loc main_arg5)) (m ((c : Thread nD τ).loc main_arg6))
        + Ideal.ofBits .f32 1056964608#32 * (kl (m ((c : Thread nD τ).loc main_arg0)) (m ((c : Thread nD τ).loc main_arg9)) (m ((c : Thread nD τ).loc main_arg10)) (m ((c : Thread nD τ).loc main_arg1))
          + Cert.Spec.dist (m ((c : Thread nD τ).loc main_arg0)) (m ((c : Thread nD τ).loc main_arg9)) (m ((c : Thread nD τ).loc main_arg2)) (m ((c : Thread nD τ).loc main_arg7)) (m ((c : Thread nD τ).loc main_arg3))))
    ∧ (W7 m ρ c (Proc.devRef .tc main_v0_1) i = ce (m ((c : Thread nD τ).loc main_arg1)) (m ((c : Thread nD τ).loc main_arg8)))
    ∧ (W7 m ρ c (Proc.devRef .tc main_v0_2) i = ratio (m ((c : Thread nD τ).loc main_arg4)) (m ((c : Thread nD τ).loc main_arg5)) (m ((c : Thread nD τ).loc main_arg6)))
    ∧ (W7 m ρ c (Proc.devRef .tc main_v0_3) i = Ideal.ofBits .f32 1056964608#32 * kl (m ((c : Thread nD τ).loc main_arg0)) (m ((c : Thread nD τ).loc main_arg9)) (m ((c : Thread nD τ).loc main_arg10)) (m ((c : Thread nD τ).loc main_arg1)))
    ∧ (W7 m ρ c (Proc.devRef .tc main_v0_4) i = Ideal.ofBits .f32 1056964608#32
        * Cert.Spec.dist (m ((c : Thread nD τ).loc main_arg0)) (m ((c : Thread nD τ).loc main_arg9)) (m ((c : Thread nD τ).loc main_arg2)) (m ((c : Thread nD τ).loc main_arg7)) (m ((c : Thread nD τ).loc main_arg3))) := by
  have eC := ceK_eq _ _ (at_v3 m ρ c) (at_v18 m ρ c) hT hL
  have eR := ratioK_eq _ _ _ (at_v456 m ρ c)
  have eK := klK_eq _ _ _ (at_sum m ρ c) (at_v2 m ρ c) (at_v3 m ρ c) hC hT
  have eD := distK_eq _ _ (at_sel m ρ c) (at_kl m ρ c hP hO)
  obtain ⟨o0, o1, o2, o3, o4⟩ := host_out (W6 m ρ c) i
  obtain ⟨a0, a1, a2, a3, a4⟩ := loss_arr (V5 m ρ) c
  refine ⟨o0.trans ((congrFun ((W6_arr m ρ c 9).trans a0) _).trans ?_), o1.trans ((congrFun ((W6_arr m ρ c 10).trans a1) _).trans eC),
    o2.trans ((congrFun ((W6_arr m ρ c 11).trans a2) _).trans eR), o3.trans ((congrFun ((W6_arr m ρ c 12).trans a3) _).trans ?_),
    o4.trans ((congrFun ((W6_arr m ρ c 13).trans a4) _).trans ?_)⟩
  · show ceK _ _ + ratioK _ _ _ + _ * klK _ _ _ + _ * distK _ _ = _
    rw [eC, eR, eK, eD, loss_eq]
  · exact congrArg (fun x => Ideal.ofBits .f32 1056964608#32 * x) eK
  · exact congrArg (fun x => Ideal.ofBits .f32 1056964608#32 * x) eD

end Cert.KernelIdeal.Own
-- ==== Proof.Value.RefC.lean ====
module

public import proofs.«01_k».proof.Proof.Value.RefB

@[expose] public section

set_option maxRecDepth 16384

noncomputable section

/-! The rows of the student's tokens. -/

namespace Cert.Ref

open Cert.ReferenceIdeal Cert.ReferenceIdeal.Gen Cert.ReferenceIdeal.Read Cert.Spec
open Idealize.ShloMosaic Idealize.ShloMosaic.TcCoe

/-- A row of the flattened student tokens. -/
theorem student_row (x2 : FVec Ideal S128x49x768 .f32) (r : Fin 6272) (n : Fin 768) :
    val_main_v72 (F := Ideal) x2 (ix2 r n) = row3 x2 (img r) (pos r) n := by
  pointwise [val_main_v72]
  rfl

/-- Its greatest entry. -/
theorem student_top (x2 : FVec Ideal S128x49x768 .f32) (r : Fin 6272) :
    val_main_call4_v2 (F := Ideal) x2 (ix1 r) = top (row3 x2 (img r) (pos r)) := by
  have h : val_main_call4_v0 (F := Ideal) x2 (ix1 r) = top (row3 x2 (img r) (pos r)) := by
    pointwise [val_main_call4_v0, val_main_call4_cst, student_row]
    rfl
  rw [val_main_call4_v2_apply, h, val_main_call4_v1_apply, val_main_call4_cst_0_apply]
  exact max_top _

/-- The row less its greatest entry. -/
theorem student_sub (x2 : FVec Ideal S128x49x768 .f32) (r : Fin 6272) (n : Fin 768) :
    val_main_call4_v5 (F := Ideal) x2 (ix2 r n) = row3 x2 (img r) (pos r) n - top (row3 x2 (img r) (pos r)) := by
  pointwise [val_main_call4_v5, val_main_call4_v4, val_main_call4_v3, student_top, student_row]

/-- The sum of its shifted exponentials. -/
theorem student_sum (x2 : FVec Ideal S128x49x768 .f32) (r : Fin 6272) :
    val_main_call4_v7 (F := Ideal) x2 (ix1 r) = sexp (row3 x2 (img r) (pos r)) := by
  pointwise [val_main_call4_v7, val_main_call4_v6, val_main_call4_cst_1, student_sub]
  rfl

/-- The log of that sum. -/
theorem student_log (x2 : FVec Ideal S128x49x768 .f32) (r : Fin 6272) (n : Fin 768) :
    val_main_call4_v10 (F := Ideal) x2 (ix2 r n) = Ideal.log (sexp (row3 x2 (img r) (pos r))) := by
  pointwise [val_main_call4_v10, val_main_call4_v9, val_main_call4_v8, student_sum]

/-- The log-softmax of the student's row. -/
theorem student_lsm (x2 : FVec Ideal S128x49x768 .f32) (r : Fin 6272) (n : Fin 768) :
    val_main_v73 (F := Ideal) x2 (ix2 r n) = lsm (row3 x2 (img r) (pos r)) n := by
  pointwise [val_main_v73, student_sub, student_log]
  rfl

/-- A row of the flattened teacher tokens. -/
theorem teacher_row (x0 : FVec Ideal S128x3x224x224 .f32) (x7 : IVec S128x49 32) (x9 : FVec Ideal S768x768 .f32) (r : Fin 6272) (n : Fin 768) :
    val_main_v74 (F := Ideal) x0 x7 x9 (ix2 r n) = row3 (val_main_v66 (F := Ideal) x0 x7 x9) (img r) (pos r) n := by
  pointwise [val_main_v74]
  rfl

/-- Its greatest entry. -/
theorem teacher_top (x0 : FVec Ideal S128x3x224x224 .f32) (x7 : IVec S128x49 32) (x9 : FVec Ideal S768x768 .f32) (r : Fin 6272) :
    val_main_call5_v2 (F := Ideal) x0 x7 x9 (ix1 r) = top (row3 (val_main_v66 (F := Ideal) x0 x7 x9) (img r) (pos r)) := by
  have h : val_main_call5_v0 (F := Ideal) x0 x7 x9 (ix1 r) = top (row3 (val_main_v66 (F := Ideal) x0 x7 x9) (img r) (pos r)) := by
    pointwise [val_main_call5_v0, val_main_call5_cst, teacher_row]
    rfl
  rw [val_main_call5_v2_apply, h, val_main_call5_v1_apply, val_main_call5_cst_0_apply]
  exact max_top _

/-- The row less its greatest entry. -/
theorem teacher_sub (x0 : FVec Ideal S128x3x224x224 .f32) (x7 : IVec S128x49 32) (x9 : FVec Ideal S768x768 .f32) (r : Fin 6272) (n : Fin 768) :
    val_main_call5_v5 (F := Ideal) x0 x7 x9 (ix2 r n) = row3 (val_main_v66 (F := Ideal) x0 x7 x9) (img r) (pos r) n - top (row3 (val_main_v66 (F := Ideal) x0 x7 x9) (img r) (pos r)) := by
  pointwise [val_main_call5_v5, val_main_call5_v4, val_main_call5_v3, teacher_top, teacher_row]

/-- The sum of its shifted exponentials. -/
theorem teacher_sum (x0 : FVec Ideal S128x3x224x224 .f32) (x7 : IVec S128x49 32) (x9 : FVec Ideal S768x768 .f32) (r : Fin 6272) :
    val_main_call5_v7 (F := Ideal) x0 x7 x9 (ix1 r) = sexp (row3 (val_main_v66 (F := Ideal) x0 x7 x9) (img r) (pos r)) := by
  pointwise [val_main_call5_v7, val_main_call5_v6, val_main_call5_cst_1, teacher_sub]
  rfl

/-- The log of that sum. -/
theorem teacher_log (x0 : FVec Ideal S128x3x224x224 .f32) (x7 : IVec S128x49 32) (x9 : FVec Ideal S768x768 .f32) (r : Fin 6272) (n : Fin 768) :
    val_main_call5_v10 (F := Ideal) x0 x7 x9 (ix2 r n) = Ideal.log (sexp (row3 (val_main_v66 (F := Ideal) x0 x7 x9) (img r) (pos r))) := by
  pointwise [val_main_call5_v10, val_main_call5_v9, val_main_call5_v8, teacher_sum]

/-- The log-softmax of the teacher's row. -/
theorem teacher_lsm (x0 : FVec Ideal S128x3x224x224 .f32) (x7 : IVec S128x49 32) (x9 : FVec Ideal S768x768 .f32) (r : Fin 6272) (n : Fin 768) :
    val_main_v75 (F := Ideal) x0 x7 x9 (ix2 r n) = lsm (row3 (val_main_v66 (F := Ideal) x0 x7 x9) (img r) (pos r)) n := by
  pointwise [val_main_v75, teacher_sub, teacher_log]
  rfl

/-- The gathered teacher row is the token at the kept position. -/
theorem picked_row (x0 : FVec Ideal S128x3x224x224 .f32) (x7 : IVec S128x49 32) (x9 : FVec Ideal S768x768 .f32) (h : ∀ b l, 0 ≤ (x7 (ix2 b l)).toInt) (b : Fin 128) (l : Fin 49) :
    row3 (val_main_v66 (F := Ideal) x0 x7 x9) b l = tok x0 x9 b (at' 196 (by norm_num) (x7 (ix2 b l))) :=
  funext fun d => ref_picked x0 x7 x9 b l d (h b l)

/-- The divergence of one row. -/
theorem ref_tkl (x0 : FVec Ideal S128x3x224x224 .f32) (x7 : IVec S128x49 32) (x9 : FVec Ideal S768x768 .f32) (x2 : FVec Ideal S128x49x768 .f32) (h : ∀ b l, 0 ≤ (x7 (ix2 b l)).toInt) (r : Fin 6272) :
    val_main_v79 (F := Ideal) x0 x2 x7 x9 (ix1 r) = tkl x0 x9 x2 x7 (img r) (pos r) := by
  pointwise [val_main_v79, val_main_cst_26, val_main_v78, val_main_v77, val_main_v76, teacher_lsm, student_lsm]
  rw [picked_row x0 x7 x9 h]
  rfl

/-- The distillation loss. -/
theorem ref_dist (x0 : FVec Ideal S128x3x224x224 .f32) (x7 : IVec S128x49 32) (x9 : FVec Ideal S768x768 .f32) (x2 : FVec Ideal S128x49x768 .f32) (x3 : FVec Ideal S128x49 .f32) (h : ∀ b l, 0 ≤ (x7 (ix2 b l)).toInt) (i : S_.Idx) :
    val_main_v85 (F := Ideal) x0 x2 x3 x7 x9 i = Cert.Spec.dist x0 x9 x2 x7 x3 := by
  have h2 : ∀ j, val_main_v82 (F := Ideal) x0 x2 x3 x7 x9 j = ∑ b, ∑ l, tkl x0 x9 x2 x7 b l * sel x3 b l := by
    intro j
    pointwise [val_main_v82, val_main_v81, val_main_cst_28, ref_mask]
    refine Eq.trans (Finset.sum_congr rfl fun r _ => ?_) (sum_rows (fun b l => tkl x0 x9 x2 x7 b l * sel x3 b l))
    rw [ref_tkl x0 x7 x9 x2 h]
  pointwise [val_main_v85, val_main_call6_v0, val_main_v84, val_main_v83, val_main_cst_29, val_main_cst_30, val_main_v80, val_main_cst_27, ref_count, h2]
  have h0 : id (constant (F := Ideal) S_ .f32 0#32) i = 0 := by
    show constant (F := Ideal) S_ .f32 0#32 i = 0
    pointwise
  rw [h0]
  rfl

/-- The reference's first result. -/
theorem ref_loss (x0 : FVec Ideal S128x3x224x224 .f32) (x1 : FVec Ideal S128x1000 .f32) (x2 : FVec Ideal S128x49x768 .f32) (x3 : FVec Ideal S128x49 .f32)
    (x4 x5 x6 : FVec Ideal S128x196 .f32) (x7 : IVec S128x49 32) (x8 : IVec S128 32) (x9 : FVec Ideal S768x768 .f32) (x10 : FVec Ideal S768x1000 .f32)
    (h : ∀ b l, 0 ≤ (x7 (ix2 b l)).toInt) (h' : ∀ b, 0 ≤ (x8 (ix1 b)).toInt ∧ (x8 (ix1 b)).toInt < 1000) (i : S_.Idx) :
    val_main_v92 (F := Ideal) x0 x1 x2 x3 x4 x5 x6 x7 x8 x9 x10 i = ce x1 x8 + ratio x4 x5 x6
      + Ideal.ofBits .f32 1056964608#32 * (kl x0 x9 x10 x1 + Cert.Spec.dist x0 x9 x2 x7 x3) := by
  pointwise [val_main_v92, val_main_v91, val_main_v90, val_main_v89, val_main_v88, val_main_cst_33, val_main_cst_34, ref_kl, ref_ratio]
  rw [ref_ce x1 x8 h', ref_dist x0 x7 x9 x2 x3 h]

/-- The reference's second result. -/
theorem ref_cls (x1 : FVec Ideal S128x1000 .f32) (x8 : IVec S128 32) (h' : ∀ b, 0 ≤ (x8 (ix1 b)).toInt ∧ (x8 (ix1 b)).toInt < 1000) (i : S_.Idx) :
    val_main_v93 (F := Ideal) x1 x8 i = ce x1 x8 := by
  pointwise [val_main_v93, val_main_cst_35]
  exact ref_ce x1 x8 h' i

/-- The reference's fourth result. -/
theorem ref_klp (x0 : FVec Ideal S128x3x224x224 .f32) (x1 : FVec Ideal S128x1000 .f32) (x9 : FVec Ideal S768x768 .f32) (x10 : FVec Ideal S768x1000 .f32) (i : S_.Idx) :
    val_main_v94 (F := Ideal) x0 x1 x9 x10 i = Ideal.ofBits .f32 1056964608#32 * kl x0 x9 x10 x1 := by
  pointwise [val_main_v94, val_main_cst_36, ref_kl]

/-- The reference's fifth result. -/
theorem ref_distp (x0 : FVec Ideal S128x3x224x224 .f32) (x7 : IVec S128x49 32) (x9 : FVec Ideal S768x768 .f32) (x2 : FVec Ideal S128x49x768 .f32) (x3 : FVec Ideal S128x49 .f32)
    (h : ∀ b l, 0 ≤ (x7 (ix2 b l)).toInt) (i : S_.Idx) :
    val_main_v95 (F := Ideal) x0 x2 x3 x7 x9 i = Ideal.ofBits .f32 1056964608#32 * Cert.Spec.dist x0 x9 x2 x7 x3 := by
  pointwise [val_main_v95, val_main_cst_37]
  rw [ref_dist x0 x7 x9 x2 x3 h]

end Cert.Ref
-- ==== Proof.Value.RefD.lean ====
module

public import proofs.«01_k».proof.Proof.Value.RefC
public import proofs.«01_k».proof.Proof.Gen.ReferenceIdeal.Run

@[expose] public section

set_option maxRecDepth 16384

noncomputable section

/-! The reference's run, its five results the losses of the specification. -/

namespace Cert.Ref

open Cert.ReferenceIdeal Cert.ReferenceIdeal.Gen Cert.ReferenceIdeal.Read Cert.Spec
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- With labels and positions in range the reference runs and leaves the five losses of the specification. -/
theorem ran (hP : ∀ (c : Dev nD) (b : Fin 128) (l : Fin 49), 0 ≤ BitVec.toInt (m ((c.tc : Thread nD τ).loc main_arg7) (ix2 b l)))
    (hL : ∀ (c : Dev nD) (b : Fin 128), 0 ≤ BitVec.toInt (m ((c.tc : Thread nD τ).loc main_arg8) (ix1 b)) ∧ BitVec.toInt (m ((c.tc : Thread nD τ).loc main_arg8) (ix1 b)) < 1000) :
    θ_run (defs (F := Ideal)) (onTc (τ := τ) (main (F := Ideal))) ⟨m, fun _ => 0, ρ⟩ fun r => ∀ c : Dev nD,
      r.2.mem ((c.tc : Thread nD τ).loc main_v92) = (fun _ => ce (m ((c.tc : Thread nD τ).loc main_arg1)) (m ((c.tc : Thread nD τ).loc main_arg8)) + ratio (m ((c.tc : Thread nD τ).loc main_arg4)) (m ((c.tc : Thread nD τ).loc main_arg5)) (m ((c.tc : Thread nD τ).loc main_arg6)) + Ideal.ofBits .f32 1056964608#32 * (kl (m ((c.tc : Thread nD τ).loc main_arg0)) (m ((c.tc : Thread nD τ).loc main_arg9)) (m ((c.tc : Thread nD τ).loc main_arg10)) (m ((c.tc : Thread nD τ).loc main_arg1)) + Cert.Spec.dist (m ((c.tc : Thread nD τ).loc main_arg0)) (m ((c.tc : Thread nD τ).loc main_arg9)) (m ((c.tc : Thread nD τ).loc main_arg2)) (m ((c.tc : Thread nD τ).loc main_arg7)) (m ((c.tc : Thread nD τ).loc main_arg3))))
      ∧ r.2.mem ((c.tc : Thread nD τ).loc main_v93) = (fun _ => ce (m ((c.tc : Thread nD τ).loc main_arg1)) (m ((c.tc : Thread nD τ).loc main_arg8)))
      ∧ r.2.mem ((c.tc : Thread nD τ).loc main_v87) = (fun _ => ratio (m ((c.tc : Thread nD τ).loc main_arg4)) (m ((c.tc : Thread nD τ).loc main_arg5)) (m ((c.tc : Thread nD τ).loc main_arg6)))
      ∧ r.2.mem ((c.tc : Thread nD τ).loc main_v94) = (fun _ => Ideal.ofBits .f32 1056964608#32 * kl (m ((c.tc : Thread nD τ).loc main_arg0)) (m ((c.tc : Thread nD τ).loc main_arg9)) (m ((c.tc : Thread nD τ).loc main_arg10)) (m ((c.tc : Thread nD τ).loc main_arg1)))
      ∧ r.2.mem ((c.tc : Thread nD τ).loc main_v95) = (fun _ => Ideal.ofBits .f32 1056964608#32 * Cert.Spec.dist (m ((c.tc : Thread nD τ).loc main_arg0)) (m ((c.tc : Thread nD τ).loc main_arg9)) (m ((c.tc : Thread nD τ).loc main_arg2)) (m ((c.tc : Thread nD τ).loc main_arg7)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun r h c =>
    ⟨(h c).1.trans ((val_main_v92_eq (launchContents m c)).trans (funext fun i => ref_loss _ _ _ _ _ _ _ _ _ _ _ (hP c) (hL c) i)),
     (h c).2.1.trans ((val_main_v93_eq (launchContents m c)).trans (funext fun i => ref_cls _ _ (hL c) i)),
     (h c).2.2.1.trans ((val_main_v87_eq (launchContents m c)).trans (funext fun i => ref_ratio _ _ _ i)),
     (h c).2.2.2.1.trans ((val_main_v94_eq (launchContents m c)).trans (funext fun i => ref_klp _ _ _ _ i)),
     (h c).2.2.2.2.1.trans ((val_main_v95_eq (launchContents m c)).trans (funext fun i => ref_distp _ _ _ _ _ (hP c) i)),
     (h c).2.2.2.2.2⟩) (Cert.ReferenceIdeal.Value.run (F := Ideal) m ρ)

/-- The reference runs, leaves its arguments unchanged and every semaphore counter at zero. -/
theorem args : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run (defs (F := Ideal)) _ _).mono (fun r h => ⟨fun c => (h c).2.2.2.2.2, sem_eq_zero_of_no_sems (by decide) r.2⟩) (Cert.ReferenceIdeal.Value.run (F := Ideal) m ρ)

end Cert.Ref
-- ==== Proof.Value.Tame.lean ====
module

public import proofs.«01_k».proof.Proof.Value.Math
public import proofs.«01_k».proof.Pre_tame
public import Idealize.ShloMosaic.Lib.Pointwise
public import Idealize.ShloMosaic.Lib.ReduceAll

@[expose] public section

set_option maxRecDepth 16384

noncomputable section

/-! What the precondition says of the arguments. -/

namespace Cert.Tame

open Cert.Pre_tame Cert.Spec
open Idealize.ShloMosaic

/-- The side conditions of the precondition's program. -/
theorem facts : Cert.Pre_tame.Facts where
  bcast_S_S128x1000 := by decide
  reducesTo_S128x1000_S_d0_1 := by decide
  h_S_ := by decide
  bcast_S_S128x49x768 := by decide
  reducesTo_S128x49x768_S_d0_1_2 := by decide
  bcast_S_S768x1000 := by decide
  reducesTo_S768x1000_S_d0_1 := by decide
  bcast_S_S128 := by decide
  reducesTo_S128_S_d0 := by decide
  bcast_S_S128x49 := by decide
  reducesTo_S128x49_S_d0_1 := by decide

/-- A conjunction of bits is one only if both are. -/
theorem andi_parts {a b : BitVec 1} (h : IntOp.andi a b = 1#1) : a = 1#1 ∧ b = 1#1 := by
  revert a b
  decide

/-- What passes the finiteness test is a real number. -/
theorem real_of_bit {x : EReal} (h : FloatOps.cmpf (F := Ideal) (φ := .f32) .oeq (x - x) (Ideal.ofBits .f32 0#32) = 1#1) : ∃ r : ℝ, x = r := by
  refine real_of_sub_self ?_
  by_contra hx
  simp [FloatOps.cmpf, Ideal.ofBits, Ideal.ieee] at h
  simp [Ideal.cmp, hx] at h

/-- What the precondition says of the arguments. -/
theorem opened [Cert.Pre_tame.Facts] (a0 : FVec Ideal S128x3x224x224 .f32) (a1 : FVec Ideal S128x1000 .f32) (a2 : FVec Ideal S128x49x768 .f32) (a3 : FVec Ideal S128x49 .f32)
    (a4 a5 a6 : FVec Ideal S128x196 .f32) (a7 : IVec S128x49 32) (a8 : IVec S128 32) (a9 : FVec Ideal S768x768 .f32) (a10 : FVec Ideal S768x1000 .f32)
    (h : Cert.Pre_tame.fn (F := Ideal) a0 a1 a2 a3 a4 a5 a6 a7 a8 a9 a10 = fun _ => 1#1) :
    (∀ i, ∃ r : ℝ, a1 i = (r : EReal)) ∧ (∀ i, ∃ r : ℝ, a2 i = (r : EReal)) ∧ (∀ i, ∃ r : ℝ, a10 i = (r : EReal))
    ∧ (∀ b, 0 ≤ (a8 (ix1 b)).toInt ∧ (a8 (ix1 b)).toInt < 1000) ∧ (∀ b l, 0 ≤ (a7 (ix2 b l)).toInt ∧ (a7 (ix2 b l)).toInt < 196) := by
  have h0 := congrFun h (fun a => a.elim0)
  unfold Cert.Pre_tame.fn Cert.Pre_tame.fn_part1 at h0
  obtain ⟨h0, h7⟩ := andi_parts h0
  obtain ⟨h0, h8⟩ := andi_parts h0
  obtain ⟨h0, h10⟩ := andi_parts h0
  obtain ⟨h1, h2⟩ := andi_parts h0
  have : Subsingleton S_.Idx := ⟨fun i j => funext fun a => a.elim0⟩
  refine ⟨fun i => ?_, fun i => ?_, fun i => ?_, fun b => ?_, fun b l => ?_⟩
  · exact real_of_bit (Host.reduce_andi_all _ _ _ _ _ h1 i)
  · exact real_of_bit (Host.reduce_andi_all _ _ _ _ _ h2 i)
  · exact real_of_bit (Host.reduce_andi_all _ _ _ _ _ h10 i)
  · have e := Host.reduce_andi_all _ _ _ _ _ h8 (ix1 b)
    obtain ⟨e1, e2⟩ := andi_parts e
    have e1' : (0 : ℤ) ≤ (a8 (ix1 b)).toInt := IntOp.cmpi_sge.1 e1
    have e2' : (a8 (ix1 b)).toInt < 1000 := IntOp.cmpi_slt.1 e2
    exact ⟨e1', e2'⟩
  · have e := Host.reduce_andi_all _ _ _ _ _ h7 (ix2 b l)
    obtain ⟨e1, e2⟩ := andi_parts e
    have e1' : (0 : ℤ) ≤ (a7 (ix2 b l)).toInt := IntOp.cmpi_sge.1 e1
    have e2' : (a7 (ix2 b l)).toInt < 196 := IntOp.cmpi_slt.1 e2
    exact ⟨e1', e2'⟩

end Cert.Tame
-- ==== Proof.lean ====
module

public import proofs.«01_k».proof.Defs
public import proofs.«01_k».proof.Proof.Rounded.Run
public import proofs.«01_k».proof.Proof.Value.Results
public import proofs.«01_k».proof.Proof.Value.RefD
public import proofs.«01_k».proof.Proof.Value.Tame

@[expose] public section

set_option maxRecDepth 16384

/-! The claims of the launches' ends, of the named constant and of the five losses. -/

namespace Cert.Proof

open Idealize.ShloMosaic Idealize.ShloMosaic.TcCoe
open Idealize.SL Idealize.SL.Sem
open Cert.Spec

/-- The kernel as printed runs, leaves its arguments unchanged and every semaphore counter at zero. -/
theorem ends_kernel : Cert.quiescent_Kernel := fun m g _ =>
  (θ_run Cert.Kernel.defs _ _).mono (fun _ h => ⟨fun c => (h.1 c).2.2.2.2.2, h.2⟩) (Cert.Kernel.Own.frame (F := Bits) m g)

/-- The ideal kernel does too. -/
theorem ends_ideal : Cert.quiescent_KernelIdeal := fun m g _ =>
  (θ_run Cert.KernelIdeal.defs _ _).mono (fun _ h => ⟨fun c => (h.1 c).2.2.2.2.2, h.2⟩) (Cert.KernelIdeal.Own.frame (F := Ideal) m g)

/-- The literal 0.00510204071 is named 1/196. -/
theorem constant : Cert.preserves_Kernel_KernelIdeal :=
  IdealRules.named_const.statement Cert.KernelIdeal.κ "inv_nt" .f32 0x3BA72F05#32 ((1 / 196 : ℝ) : EReal) rfl

/-- Kernel and reference leave the same five losses. -/
theorem losses : Cert.algebraic_KernelIdeal_ReferenceIdeal_pre_tame (hPre_tame := Cert.Tame.facts) := by
  intro m g m' g' pre agree
  have T := fun c => @Cert.Tame.opened Cert.Tame.facts _ _ _ _ _ _ _ _ _ _ _ (pre c)
  have R := fun c i => Cert.KernelIdeal.Own.results m g c (T c).1 (T c).2.1 (T c).2.2.1 (T c).2.2.2.1 (T c).2.2.2.2 i
  refine ⟨fun c => Cert.KernelIdeal.Own.W7 m g c (Proc.devRef .tc Cert.KernelIdeal.main_v0_0), fun c => Cert.KernelIdeal.Own.W7 m g c (Proc.devRef .tc Cert.KernelIdeal.main_v0_1),
    fun c => Cert.KernelIdeal.Own.W7 m g c (Proc.devRef .tc Cert.KernelIdeal.main_v0_2), fun c => Cert.KernelIdeal.Own.W7 m g c (Proc.devRef .tc Cert.KernelIdeal.main_v0_3),
    fun c => Cert.KernelIdeal.Own.W7 m g c (Proc.devRef .tc Cert.KernelIdeal.main_v0_4), ?_, ?_⟩
  · exact (θ_run Cert.KernelIdeal.defs _ _).mono (fun _ h => h.1) (Cert.KernelIdeal.Own.frame (F := Ideal) m g)
  · refine (θ_run Cert.ReferenceIdeal.defs _ _).mono (fun r h c => ?_) (Cert.Ref.ran m' g'
      (fun c b l => by rw [(agree c).2.2.2.2.2.2.2.1]; exact ((T c).2.2.2.2 b l).1)
      (fun c b => by rw [(agree c).2.2.2.2.2.2.2.2.1]; exact (T c).2.2.2.1 b))
    obtain ⟨h0, h1, h2, h3, h4, h5⟩ := h c
    obtain ⟨a0, a1, a2, a3, a4, a5, a6, a7, a8, a9, a10⟩ := agree c
    rw [a0, a1, a2, a3, a4, a5, a6, a7, a8, a9, a10] at h0
    rw [a1, a8] at h1
    rw [a4, a5, a6] at h2
    rw [a0, a1, a9, a10] at h3
    rw [a0, a2, a3, a7, a9] at h4
    exact ⟨h0.trans (funext fun i => (R c i).1.symm), h1.trans (funext fun i => (R c i).2.1.symm), h2.trans (funext fun i => (R c i).2.2.1.symm),
      h3.trans (funext fun i => (R c i).2.2.2.1.symm), h4.trans (funext fun i => (R c i).2.2.2.2.symm), h5⟩

/-- All claims. -/
theorem claim : Cert.Claim :=
  ⟨Cert.Kernel.Gen.facts, Cert.KernelIdeal.Gen.facts, Cert.ReferenceIdeal.Gen.facts, Cert.Tame.facts, ends_kernel, ends_ideal,
    fun m g _ => ends_ideal m g trivial, fun m g _ => Cert.Ref.args m g, fun m g _ => Cert.Ref.args m g, constant, losses⟩

end Cert.Proof

end
